-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "k_quarter_neg" .f32 0xC81044FE#32 ((-((18446744073709551616 / 180143990463529) * (Real.log 2)⁻¹) : ℝ) : EReal)
  ∧ IdealRules.named_const.Statement Cert.KernelIdeal.κ "sqk" .f32 0x44402DF9#32 (((8589934592 / 13421773) * (Real.sqrt (Real.log 2))⁻¹ : ℝ) : EReal)
  ∧ IdealRules.named_const.Statement Cert.KernelIdeal.κ "cb0" .f32 0x40C02DF9#32 (((67108864 / 13421773) * (Real.sqrt (Real.log 2))⁻¹ : ℝ) : EReal)
  ∧ IdealRules.named_const.Statement Cert.KernelIdeal.κ "dlt2" .f32 0x41C02DF9#32 (((268435456 / 13421773) * (Real.sqrt (Real.log 2))⁻¹ : ℝ) : EReal)
  ∧ IdealRules.named_const.Statement Cert.KernelIdeal.κ "dltsq" .f32 0x431044FE#32 (((18014398509481984 / 180143990463529) * (Real.log 2)⁻¹ : ℝ) : EReal)
  ∧ IdealRules.named_const.Statement Cert.KernelIdeal.κ "dltsq2" .f32 0x439044FE#32 (((36028797018963968 / 180143990463529) * (Real.log 2)⁻¹ : ℝ) : EReal)
  ∧ IdealRules.named_const.Statement Cert.KernelIdeal.κ "cb16" .f32 0x43462F69#32 (((2214592512 / 13421773) * (Real.sqrt (Real.log 2))⁻¹ : ℝ) : EReal)
  ∧ IdealRules.named_const.Statement Cert.KernelIdeal.κ "cb32" .f32 0x43C32EB1#32 (((4362076160 / 13421773) * (Real.sqrt (Real.log 2))⁻¹ : ℝ) : EReal)
  ∧ IdealRules.named_const.Statement Cert.KernelIdeal.κ "cb48" .f32 0x4411A2D7#32 (((6509559808 / 13421773) * (Real.sqrt (Real.log 2))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x512x512 : Shape := ⟨4, ![4, 1, 512, 512]⟩
abbrev S4x512x512 : Shape := ⟨3, ![4, 512, 512]⟩
abbrev S1 : Shape := ⟨1, ![1]⟩
abbrev S1x512x512 : Shape := ⟨3, ![1, 512, 512]⟩
abbrev S8 : Shape := ⟨1, ![8]⟩
abbrev S4x64x8x128 : Shape := ⟨4, ![4, 64, 8, 128]⟩
abbrev S4x8x128 : Shape := ⟨3, ![4, 8, 128]⟩
abbrev S512x512 : Shape := ⟨2, ![512, 512]⟩
abbrev S8x512 : Shape := ⟨2, ![8, 512]⟩
abbrev S8x128 : Shape := ⟨2, ![8, 128]⟩
abbrev S1x8x128 : Shape := ⟨3, ![1, 8, 128]⟩
abbrev S1x1x1 : Shape := ⟨3, ![1, 1, 1]⟩
abbrev S1x8x512 : Shape := ⟨3, ![1, 8, 512]⟩
abbrev S1x1x8x128 : Shape := ⟨4, ![1, 1, 8, 128]⟩
abbrev S4x64x128 : Shape := ⟨3, ![4, 64, 128]⟩
abbrev S4x64 : Shape := ⟨2, ![4, 64]⟩
abbrev S4 : Shape := ⟨1, ![4]⟩
abbrev S4x1 : Shape := ⟨2, ![4, 1]⟩
abbrev S64 : Shape := ⟨1, ![64]⟩
abbrev S1x64 : Shape := ⟨2, ![1, 64]⟩
abbrev S1x4x64 : Shape := ⟨3, ![1, 4, 64]⟩
abbrev S_ : Shape := ⟨0, ![]⟩

abbrev nBuf : Space → Nat
  | .hbm => 6
  | .vmem => 6
  | .smem => 2
  | _ => 0

abbrev bufTy : (tb : Table) → Fin (tcTables nBuf tb) → BufTy
  | .hbm, ⟨0, _⟩ => ⟨S4x1x512x512, .f32⟩
  | .hbm, ⟨1, _⟩ => ⟨S4x1x512x512, .f32⟩
  | .hbm, ⟨2, _⟩ => ⟨S4x512x512, .f32⟩
  | .hbm, ⟨3, _⟩ => ⟨S4x512x512, .f32⟩
  | .hbm, ⟨4, _⟩ => ⟨S1, .f32⟩
  | .hbm, ⟨5, _⟩ => ⟨S_, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S4x64x8x128, .f32⟩
  | .local _ .vmem, ⟨5, _⟩ => ⟨S4x8x128, .f32⟩
  | .local _ .smem, ⟨0, _⟩ => ⟨S1, .f32⟩
  | .local _ .smem, ⟨1, _⟩ => ⟨S8, .f32⟩
  | _, _ => ⟨S4x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off1 (i : grid0.Coords) : Fin 4 → Nat :=
  let arg1 : BitVec 32 := BitVec.ofNat 32 (i 1).val
  let v112 : Index := Scalar.indexCast arg1
  let c0_36 : Index := 0#32
  let c0_37 : Index := 0#32
  let c0_38 : Index := 0#32
  ![v112.toNat, 0, 0, 0]
def k0_off2 (i : grid0.Coords) : Fin 4 → Nat :=
  let arg1 : BitVec 32 := BitVec.ofNat 32 (i 1).val
  let v139 : Index := Scalar.indexCast arg1
  let c1_41 : Index := 1#32
  let c0_42 : Index := 0#32
  let c0_43 : Index := 0#32
  ![v139.toNat, 1, 0, 0]
def k0_off3 (i : grid0.Coords) : Fin 4 → Nat :=
  let arg1 : BitVec 32 := BitVec.ofNat 32 (i 1).val
  let v166 : Index := Scalar.indexCast arg1
  let c2_46 : Index := 2#32
  let c0_47 : Index := 0#32
  let c0_48 : Index := 0#32
  ![v166.toNat, 2, 0, 0]
def k0_off4 (i : grid0.Coords) : Fin 4 → Nat :=
  let arg1 : BitVec 32 := BitVec.ofNat 32 (i 1).val
  let v193 : Index := Scalar.indexCast arg1
  let c3_51 : Index := 3#32
  let c0_52 : Index := 0#32
  let c0_53 : Index := 0#32
  ![v193.toNat, 3, 0, 0]
def k0_off5 (i : grid0.Coords) : Fin 4 → Nat :=
  let arg1 : BitVec 32 := BitVec.ofNat 32 (i 1).val
  let v220 : Index := Scalar.indexCast arg1
  let c4 : Index := 4#32
  let c0_56 : Index := 0#32
  let c0_57 : Index := 0#32
  ![v220.toNat, 4, 0, 0]
def k0_off6 (i : grid0.Coords) : Fin 4 → Nat :=
  let arg1 : BitVec 32 := BitVec.ofNat 32 (i 1).val
  let v247 : Index := Scalar.indexCast arg1
  let c5 : Index := 5#32
  let c0_60 : Index := 0#32
  let c0_61 : Index := 0#32
  ![v247.toNat, 5, 0, 0]
def k0_off7 (i : grid0.Coords) : Fin 4 → Nat :=
  let arg1 : BitVec 32 := BitVec.ofNat 32 (i 1).val
  let v274 : Index := Scalar.indexCast arg1
  let c6 : Index := 6#32
  let c0_64 : Index := 0#32
  let c0_65 : Index := 0#32
  ![v274.toNat, 6, 0, 0]
def k0_off8 (i : grid0.Coords) : Fin 4 → Nat :=
  let arg1 : BitVec 32 := BitVec.ofNat 32 (i 1).val
  let v301 : Index := Scalar.indexCast arg1
  let c7 : Index := 7#32
  let c0_68 : Index := 0#32
  let c0_69 : Index := 0#32
  ![v301.toNat, 7, 0, 0]
def k0_off9 (i : grid0.Coords) : Fin 4 → Nat :=
  let arg1 : BitVec 32 := BitVec.ofNat 32 (i 1).val
  let v328 : Index := Scalar.indexCast arg1
  let c8_72 : Index := 8#32
  let c0_73 : Index := 0#32
  let c0_74 : Index := 0#32
  ![v328.toNat, 8, 0, 0]
def k0_off10 (i : grid0.Coords) : Fin 4 → Nat :=
  let arg1 : BitVec 32 := BitVec.ofNat 32 (i 1).val
  let v355 : Index := Scalar.indexCast arg1
  let c9 : Index := 9#32
  let c0_77 : Index := 0#32
  let c0_78 : Index := 0#32
  ![v355.toNat, 9, 0, 0]
def k0_off11 (i : grid0.Coords) : Fin 4 → Nat :=
  let arg1 : BitVec 32 := BitVec.ofNat 32 (i 1).val
  let v382 : Index := Scalar.indexCast arg1
  let c10 : Index := 10#32
  let c0_81 : Index := 0#32
  let c0_82 : Index := 0#32
  ![v382.toNat, 10, 0, 0]
def k0_off12 (i : grid0.Coords) : Fin 4 → Nat :=
  let arg1 : BitVec 32 := BitVec.ofNat 32 (i 1).val
  let v409 : Index := Scalar.indexCast arg1
  let c11 : Index := 11#32
  let c0_85 : Index := 0#32
  let c0_86 : Index := 0#32
  ![v409.toNat, 11, 0, 0]
def k0_off13 (i : grid0.Coords) : Fin 4 → Nat :=
  let arg1 : BitVec 32 := BitVec.ofNat 32 (i 1).val
  let v436 : Index := Scalar.indexCast arg1
  let c12 : Index := 12#32
  let c0_89 : Index := 0#32
  let c0_90 : Index := 0#32
  ![v436.toNat, 12, 0, 0]
def k0_off14 (i : grid0.Coords) : Fin 4 → Nat :=
  let arg1 : BitVec 32 := BitVec.ofNat 32 (i 1).val
  let v463 : Index := Scalar.indexCast arg1
  let c13 : Index := 13#32
  let c0_93 : Index := 0#32
  let c0_94 : Index := 0#32
  ![v463.toNat, 13, 0, 0]
def k0_off15 (i : grid0.Coords) : Fin 4 → Nat :=
  let arg1 : BitVec 32 := BitVec.ofNat 32 (i 1).val
  let v490 : Index := Scalar.indexCast arg1
  let c14 : Index := 14#32
  let c0_97 : Index := 0#32
  let c0_98 : Index := 0#32
  ![v490.toNat, 14, 0, 0]
def k0_off16 (i : grid0.Coords) : Fin 4 → Nat :=
  let arg1 : BitVec 32 := BitVec.ofNat 32 (i 1).val
  let v513 : Index := Scalar.indexCast arg1
  let c15 : Index := 15#32
  let c0_99 : Index := 0#32
  let c0_100 : Index := 0#32
  ![v513.toNat, 15, 0, 0]
def k0_off17 (i : grid0.Coords) : Fin 4 → Nat :=
  let arg1 : BitVec 32 := BitVec.ofNat 32 (i 1).val
  let v550 : Index := Scalar.indexCast arg1
  let c16 : Index := 16#32
  let c0_107 : Index := 0#32
  let c0_108 : Index := 0#32
  ![v550.toNat, 16, 0, 0]
def k0_off18 (i : grid0.Coords) : Fin 4 → Nat :=
  let arg1 : BitVec 32 := BitVec.ofNat 32 (i 1).val
  let v577 : Index := Scalar.indexCast arg1
  let c17 : Index := 17#32
  let c0_111 : Index := 0#32
  let c0_112 : Index := 0#32
  ![v577.toNat, 17, 0, 0]
def k0_off19 (i : grid0.Coords) : Fin 4 → Nat :=
  let arg1 : BitVec 32 := BitVec.ofNat 32 (i 1).val
  let v604 : Index := Scalar.indexCast arg1
  let c18 : Index := 18#32
  let c0_115 : Index := 0#32
  let c0_116 : Index := 0#32
  ![v604.toNat, 18, 0, 0]
def k0_off20 (i : grid0.Coords) : Fin 4 → Nat :=
  let arg1 : BitVec 32 := BitVec.ofNat 32 (i 1).val
  let v631 : Index := Scalar.indexCast arg1
  let c19 : Index := 19#32
  let c0_119 : Index := 0#32
  let c0_120 : Index := 0#32
  ![v631.toNat, 19, 0, 0]
def k0_off21 (i : grid0.Coords) : Fin 4 → Nat :=
  let arg1 : BitVec 32 := BitVec.ofNat 32 (i 1).val
  let v658 : Index := Scalar.indexCast arg1
  let c20 : Index := 20#32
  let c0_123 : Index := 0#32
  let c0_124 : Index := 0#32
  ![v658.toNat, 20, 0, 0]
def k0_off22 (i : grid0.Coords) : Fin 4 → Nat :=
  let arg1 : BitVec 32 := BitVec.ofNat 32 (i 1).val
  let v685 : Index := Scalar.indexCast arg1
  let c21 : Index := 21#32
  let c0_127 : Index := 0#32
  let c0_128 : Index := 0#32
  ![v685.toNat, 21, 0, 0]
def k0_off23 (i : grid0.Coords) : Fin 4 → Nat :=
  let arg1 : BitVec 32 := BitVec.ofNat 32 (i 1).val
  let v712 : Index := Scalar.indexCast arg1
  let c22 : Index := 22#32
  let c0_131 : Index := 0#32
  let c0_132 : Index := 0#32
  ![v712.toNat, 22, 0, 0]
def k0_off24 (i : grid0.Coords) : Fin 4 → Nat :=
  let arg1 : BitVec 32 := BitVec.ofNat 32 (i 1).val
  let v739 : Index := Scalar.indexCast arg1
  let c23 : Index := 23#32
  let c0_135 : Index := 0#32
  let c0_136 : Index := 0#32
  ![v739.toNat, 23, 0, 0]
def k0_off25 (i : grid0.Coords) : Fin 4 → Nat :=
  let arg1 : BitVec 32 := BitVec.ofNat 32 (i 1).val
  let v766 : Index := Scalar.indexCast arg1
  let c24 : Index := 24#32
  let c0_139 : Index := 0#32
  let c0_140 : Index := 0#32
  ![v766.toNat, 24, 0, 0]
def k0_off26 (i : grid0.Coords) : Fin 4 → Nat :=
  let arg1 : BitVec 32 := BitVec.ofNat 32 (i 1).val
  let v793 : Index := Scalar.indexCast arg1
  let c25 : Index := 25#32
  let c0_143 : Index := 0#32
  let c0_144 : Index := 0#32
  ![v793.toNat, 25, 0, 0]
def k0_off27 (i : grid0.Coords) : Fin 4 → Nat :=
  let arg1 : BitVec 32 := BitVec.ofNat 32 (i 1).val
  let v820 : Index := Scalar.indexCast arg1
  let c26 : Index := 26#32
  let c0_147 : Index := 0#32
  let c0_148 : Index := 0#32
  ![v820.toNat, 26, 0, 0]
def k0_off28 (i : grid0.Coords) : Fin 4 → Nat :=
  let arg1 : BitVec 32 := BitVec.ofNat 32 (i 1).val
  let v847 : Index := Scalar.indexCast arg1
  let c27 : Index := 27#32
  let c0_151 : Index := 0#32
  let c0_152 : Index := 0#32
  ![v847.toNat, 27, 0, 0]
def k0_off29 (i : grid0.Coords) : Fin 4 → Nat :=
  let arg1 : BitVec 32 := BitVec.ofNat 32 (i 1).val
  let v874 : Index := Scalar.indexCast arg1
  let c28 : Index := 28#32
  let c0_155 : Index := 0#32
  let c0_156 : Index := 0#32
  ![v874.toNat, 28, 0, 0]
def k0_off30 (i : grid0.Coords) : Fin 4 → Nat :=
  let arg1 : BitVec 32 := BitVec.ofNat 32 (i 1).val
  let v901 : Index := Scalar.indexCast arg1
  let c29 : Index := 29#32
  let c0_159 : Index := 0#32
  let c0_160 : Index := 0#32
  ![v901.toNat, 29, 0, 0]
def k0_off31 (i : grid0.Coords) : Fin 4 → Nat :=
  let arg1 : BitVec 32 := BitVec.ofNat 32 (i 1).val
  let v928 : Index := Scalar.indexCast arg1
  let c30 : Index := 30#32
  let c0_163 : Index := 0#32
  let c0_164 : Index := 0#32
  ![v928.toNat, 30, 0, 0]
def k0_off32 (i : grid0.Coords) : Fin 4 → Nat :=
  let arg1 : BitVec 32 := BitVec.ofNat 32 (i 1).val
  let v951 : Index := Scalar.indexCast arg1
  let c31 : Index := 31#32
  let c0_165 : Index := 0#32
  let c0_166 : Index := 0#32
  ![v951.toNat, 31, 0, 0]
def k0_off33 (i : grid0.Coords) : Fin 4 → Nat :=
  let arg1 : BitVec 32 := BitVec.ofNat 32 (i 1).val
  let v988 : Index := Scalar.indexCast arg1
  let c32 : Index := 32#32
  let c0_173 : Index := 0#32
  let c0_174 : Index := 0#32
  ![v988.toNat, 32, 0, 0]
def k0_off34 (i : grid0.Coords) : Fin 4 → Nat :=
  let arg1 : BitVec 32 := BitVec.ofNat 32 (i 1).val
  let v1015 : Index := Scalar.indexCast arg1
  let c33 : Index := 33#32
  let c0_177 : Index := 0#32
  let c0_178 : Index := 0#32
  ![v1015.toNat, 33, 0, 0]
def k0_off35 (i : grid0.Coords) : Fin 4 → Nat :=
  let arg1 : BitVec 32 := BitVec.ofNat 32 (i 1).val
  let v1042 : Index := Scalar.indexCast arg1
  let c34 : Index := 34#32
  let c0_181 : Index := 0#32
  let c0_182 : Index := 0#32
  ![v1042.toNat, 34, 0, 0]
def k0_off36 (i : grid0.Coords) : Fin 4 → Nat :=
  let arg1 : BitVec 32 := BitVec.ofNat 32 (i 1).val
  let v1069 : Index := Scalar.indexCast arg1
  let c35 : Index := 35#32
  let c0_185 : Index := 0#32
  let c0_186 : Index := 0#32
  ![v1069.toNat, 35, 0, 0]
def k0_off37 (i : grid0.Coords) : Fin 4 → Nat :=
  let arg1 : BitVec 32 := BitVec.ofNat 32 (i 1).val
  let v1096 : Index := Scalar.indexCast arg1
  let c36 : Index := 36#32
  let c0_189 : Index := 0#32
  let c0_190 : Index := 0#32
  ![v1096.toNat, 36, 0, 0]
def k0_off38 (i : grid0.Coords) : Fin 4 → Nat :=
  let arg1 : BitVec 32 := BitVec.ofNat 32 (i 1).val
  let v1123 : Index := Scalar.indexCast arg1
  let c37 : Index := 37#32
  let c0_193 : Index := 0#32
  let c0_194 : Index := 0#32
  ![v1123.toNat, 37, 0, 0]
def k0_off39 (i : grid0.Coords) : Fin 4 → Nat :=
  let arg1 : BitVec 32 := BitVec.ofNat 32 (i 1).val
  let v1150 : Index := Scalar.indexCast arg1
  let c38 : Index := 38#32
  let c0_197 : Index := 0#32
  let c0_198 : Index := 0#32
  ![v1150.toNat, 38, 0, 0]
def k0_off40 (i : grid0.Coords) : Fin 4 → Nat :=
  let arg1 : BitVec 32 := BitVec.ofNat 32 (i 1).val
  let v1177 : Index := Scalar.indexCast arg1
  let c39 : Index := 39#32
  let c0_201 : Index := 0#32
  let c0_202 : Index := 0#32
  ![v1177.toNat, 39, 0, 0]
def k0_off41 (i : grid0.Coords) : Fin 4 → Nat :=
  let arg1 : BitVec 32 := BitVec.ofNat 32 (i 1).val
  let v1204 : Index := Scalar.indexCast arg1
  let c40 : Index := 40#32
  let c0_205 : Index := 0#32
  let c0_206 : Index := 0#32
  ![v1204.toNat, 40, 0, 0]
def k0_off42 (i : grid0.Coords) : Fin 4 → Nat :=
  let arg1 : BitVec 32 := BitVec.ofNat 32 (i 1).val
  let v1231 : Index := Scalar.indexCast arg1
  let c41 : Index := 41#32
  let c0_209 : Index := 0#32
  let c0_210 : Index := 0#32
  ![v1231.toNat, 41, 0, 0]
def k0_off43 (i : grid0.Coords) : Fin 4 → Nat :=
  let arg1 : BitVec 32 := BitVec.ofNat 32 (i 1).val
  let v1258 : Index := Scalar.indexCast arg1
  let c42 : Index := 42#32
  let c0_213 : Index := 0#32
  let c0_214 : Index := 0#32
  ![v1258.toNat, 42, 0, 0]
def k0_off44 (i : grid0.Coords) : Fin 4 → Nat :=
  let arg1 : BitVec 32 := BitVec.ofNat 32 (i 1).val
  let v1285 : Index := Scalar.indexCast arg1
  let c43 : Index := 43#32
  let c0_217 : Index := 0#32
  let c0_218 : Index := 0#32
  ![v1285.toNat, 43, 0, 0]
def k0_off45 (i : grid0.Coords) : Fin 4 → Nat :=
  let arg1 : BitVec 32 := BitVec.ofNat 32 (i 1).val
  let v1312 : Index := Scalar.indexCast arg1
  let c44 : Index := 44#32
  let c0_221 : Index := 0#32
  let c0_222 : Index := 0#32
  ![v1312.toNat, 44, 0, 0]
def k0_off46 (i : grid0.Coords) : Fin 4 → Nat :=
  let arg1 : BitVec 32 := BitVec.ofNat 32 (i 1).val
  let v1339 : Index := Scalar.indexCast arg1
  let c45 : Index := 45#32
  let c0_225 : Index := 0#32
  let c0_226 : Index := 0#32
  ![v1339.toNat, 45, 0, 0]
def k0_off47 (i : grid0.Coords) : Fin 4 → Nat :=
  let arg1 : BitVec 32 := BitVec.ofNat 32 (i 1).val
  let v1366 : Index := Scalar.indexCast arg1
  let c46 : Index := 46#32
  let c0_229 : Index := 0#32
  let c0_230 : Index := 0#32
  ![v1366.toNat, 46, 0, 0]
def k0_off48 (i : grid0.Coords) : Fin 4 → Nat :=
  let arg1 : BitVec 32 := BitVec.ofNat 32 (i 1).val
  let v1389 : Index := Scalar.indexCast arg1
  let c47 : Index := 47#32
  let c0_231 : Index := 0#32
  let c0_232 : Index := 0#32
  ![v1389.toNat, 47, 0, 0]
def k0_off49 (i : grid0.Coords) : Fin 4 → Nat :=
  let arg1 : BitVec 32 := BitVec.ofNat 32 (i 1).val
  let v1426 : Index := Scalar.indexCast arg1
  let c48 : Index := 48#32
  let c0_239 : Index := 0#32
  let c0_240 : Index := 0#32
  ![v1426.toNat, 48, 0, 0]
def k0_off50 (i : grid0.Coords) : Fin 4 → Nat :=
  let arg1 : BitVec 32 := BitVec.ofNat 32 (i 1).val
  let v1453 : Index := Scalar.indexCast arg1
  let c49 : Index := 49#32
  let c0_243 : Index := 0#32
  let c0_244 : Index := 0#32
  ![v1453.toNat, 49, 0, 0]
def k0_off51 (i : grid0.Coords) : Fin 4 → Nat :=
  let arg1 : BitVec 32 := BitVec.ofNat 32 (i 1).val
  let v1480 : Index := Scalar.indexCast arg1
  let c50 : Index := 50#32
  let c0_247 : Index := 0#32
  let c0_248 : Index := 0#32
  ![v1480.toNat, 50, 0, 0]
def k0_off52 (i : grid0.Coords) : Fin 4 → Nat :=
  let arg1 : BitVec 32 := BitVec.ofNat 32 (i 1).val
  let v1507 : Index := Scalar.indexCast arg1
  let c51 : Index := 51#32
  let c0_251 : Index := 0#32
  let c0_252 : Index := 0#32
  ![v1507.toNat, 51, 0, 0]
def k0_off53 (i : grid0.Coords) : Fin 4 → Nat :=
  let arg1 : BitVec 32 := BitVec.ofNat 32 (i 1).val
  let v1534 : Index := Scalar.indexCast arg1
  let c52 : Index := 52#32
  let c0_255 : Index := 0#32
  let c0_256 : Index := 0#32
  ![v1534.toNat, 52, 0, 0]
def k0_off54 (i : grid0.Coords) : Fin 4 → Nat :=
  let arg1 : BitVec 32 := BitVec.ofNat 32 (i 1).val
  let v1561 : Index := Scalar.indexCast arg1
  let c53 : Index := 53#32
  let c0_259 : Index := 0#32
  let c0_260 : Index := 0#32
  ![v1561.toNat, 53, 0, 0]
def k0_off55 (i : grid0.Coords) : Fin 4 → Nat :=
  let arg1 : BitVec 32 := BitVec.ofNat 32 (i 1).val
  let v1588 : Index := Scalar.indexCast arg1
  let c54 : Index := 54#32
  let c0_263 : Index := 0#32
  let c0_264 : Index := 0#32
  ![v1588.toNat, 54, 0, 0]
def k0_off56 (i : grid0.Coords) : Fin 4 → Nat :=
  let arg1 : BitVec 32 := BitVec.ofNat 32 (i 1).val
  let v1615 : Index := Scalar.indexCast arg1
  let c55 : Index := 55#32
  let c0_267 : Index := 0#32
  let c0_268 : Index := 0#32
  ![v1615.toNat, 55, 0, 0]
def k0_off57 (i : grid0.Coords) : Fin 4 → Nat :=
  let arg1 : BitVec 32 := BitVec.ofNat 32 (i 1).val
  let v1642 : Index := Scalar.indexCast arg1
  let c56 : Index := 56#32
  let c0_271 : Index := 0#32
  let c0_272 : Index := 0#32
  ![v1642.toNat, 56, 0, 0]
def k0_off58 (i : grid0.Coords) : Fin 4 → Nat :=
  let arg1 : BitVec 32 := BitVec.ofNat 32 (i 1).val
  let v1669 : Index := Scalar.indexCast arg1
  let c57 : Index := 57#32
  let c0_275 : Index := 0#32
  let c0_276 : Index := 0#32
  ![v1669.toNat, 57, 0, 0]
def k0_off59 (i : grid0.Coords) : Fin 4 → Nat :=
  let arg1 : BitVec 32 := BitVec.ofNat 32 (i 1).val
  let v1696 : Index := Scalar.indexCast arg1
  let c58 : Index := 58#32
  let c0_279 : Index := 0#32
  let c0_280 : Index := 0#32
  ![v1696.toNat, 58, 0, 0]
def k0_off60 (i : grid0.Coords) : Fin 4 → Nat :=
  let arg1 : BitVec 32 := BitVec.ofNat 32 (i 1).val
  let v1723 : Index := Scalar.indexCast arg1
  let c59 : Index := 59#32
  let c0_283 : Index := 0#32
  let c0_284 : Index := 0#32
  ![v1723.toNat, 59, 0, 0]
def k0_off61 (i : grid0.Coords) : Fin 4 → Nat :=
  let arg1 : BitVec 32 := BitVec.ofNat 32 (i 1).val
  let v1750 : Index := Scalar.indexCast arg1
  let c60 : Index := 60#32
  let c0_287 : Index := 0#32
  let c0_288 : Index := 0#32
  ![v1750.toNat, 60, 0, 0]
def k0_off62 (i : grid0.Coords) : Fin 4 → Nat :=
  let arg1 : BitVec 32 := BitVec.ofNat 32 (i 1).val
  let v1777 : Index := Scalar.indexCast arg1
  let c61 : Index := 61#32
  let c0_291 : Index := 0#32
  let c0_292 : Index := 0#32
  ![v1777.toNat, 61, 0, 0]
def k0_off63 (i : grid0.Coords) : Fin 4 → Nat :=
  let arg1 : BitVec 32 := BitVec.ofNat 32 (i 1).val
  let v1804 : Index := Scalar.indexCast arg1
  let c62 : Index := 62#32
  let c0_295 : Index := 0#32
  let c0_296 : Index := 0#32
  ![v1804.toNat, 62, 0, 0]
def k0_off64 (i : grid0.Coords) : Fin 4 → Nat :=
  let arg1 : BitVec 32 := BitVec.ofNat 32 (i 1).val
  let v1827 : Index := Scalar.indexCast arg1
  let c63 : Index := 63#32
  let c0_297 : Index := 0#32
  let c0_298 : Index := 0#32
  ![v1827.toNat, 63, 0, 0]
def k0_cond6 (i : grid0.Coords) : BitVec 1 :=
  let arg1 : BitVec 32 := BitVec.ofNat 32 (i 1).val
  let c3_i32 : BitVec 32 := 3#32
  let v65939 : BitVec 1 := Scalar.cmpi .eq arg1 c3_i32
  let v65940 : BitVec 32 := Scalar.extui v65939
  let c0_i32_17107 : BitVec 32 := 0#32
  let v65941 : BitVec 1 := Scalar.cmpi .ne v65940 c0_i32_17107
  v65941

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== KernelIdeal.lean ====
variable {F : FTy → Type} [FloatOps F] [Named F]
def κ : String → Option EReal := fun
  | "cb0" => some (((67108864 / 13421773) * (Real.sqrt (Real.log 2))⁻¹ : ℝ) : EReal)
  | "cb16" => some (((2214592512 / 13421773) * (Real.sqrt (Real.log 2))⁻¹ : ℝ) : EReal)
  | "cb32" => some (((4362076160 / 13421773) * (Real.sqrt (Real.log 2))⁻¹ : ℝ) : EReal)
  | "cb48" => some (((6509559808 / 13421773) * (Real.sqrt (Real.log 2))⁻¹ : ℝ) : EReal)
  | "dlt2" => some (((268435456 / 13421773) * (Real.sqrt (Real.log 2))⁻¹ : ℝ) : EReal)
  | "dltsq" => some (((18014398509481984 / 180143990463529) * (Real.log 2)⁻¹ : ℝ) : EReal)
  | "dltsq2" => some (((36028797018963968 / 180143990463529) * (Real.log 2)⁻¹ : ℝ) : EReal)
  | "k_quarter_neg" => some ((-((18446744073709551616 / 180143990463529) * (Real.log 2)⁻¹) : ℝ) : EReal)
  | "sqk" => some (((8589934592 / 13421773) * (Real.sqrt (Real.log 2))⁻¹ : ℝ) : EReal)
  | _ => none
-- ==== ReferenceIdeal.lean ====
abbrev S4x1x512x512 : Shape := ⟨4, ![4, 1, 512, 512]⟩
abbrev S4x1x262144 : Shape := ⟨3, ![4, 1, 262144]⟩
abbrev S_ : Shape := ⟨0, ![]⟩
abbrev S64 : Shape := ⟨1, ![64]⟩
abbrev S1 : Shape := ⟨1, ![1]⟩
abbrev S65 : Shape := ⟨1, ![65]⟩
abbrev S4x1x262144x1 : Shape := ⟨4, ![4, 1, 262144, 1]⟩
abbrev S1x1x1x64 : Shape := ⟨4, ![1, 1, 1, 64]⟩
abbrev S4x1x262144x64 : Shape := ⟨4, ![4, 1, 262144, 64]⟩
abbrev S4x1x64 : Shape := ⟨3, ![4, 1, 64]⟩
abbrev S4x1 : Shape := ⟨2, ![4, 1]⟩
abbrev S4x1x1 : Shape := ⟨3, ![4, 1, 1]⟩
abbrev S4x64 : Shape := ⟨2, ![4, 64]⟩
abbrev S4 : Shape := ⟨1, ![4]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S4x1x512x512, .f32⟩
  | .hbm, ⟨1, _⟩ => ⟨S4x1x512x512, .f32⟩
  | .hbm, ⟨2, _⟩ => ⟨S4x1x262144, .f32⟩
  | .hbm, ⟨3, _⟩ => ⟨S4x1x262144, .f32⟩
  | .hbm, ⟨4, _⟩ => ⟨S_, .f32⟩
  | .hbm, ⟨5, _⟩ => ⟨S_, .f32⟩
  | .hbm, ⟨6, _⟩ => ⟨S4x1x262144, .f32⟩
  | .hbm, ⟨7, _⟩ => ⟨S4x1x262144, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x1x262144, .f32⟩
  | .hbm, ⟨16, _⟩ => ⟨S4x1x262144, .f32⟩
  | .hbm, ⟨17, _⟩ => ⟨S_, .f32⟩
  | .hbm, ⟨18, _⟩ => ⟨S_, .f32⟩
  | .hbm, ⟨19, _⟩ => ⟨S4x1x262144, .f32⟩
  | .hbm, ⟨20, _⟩ => ⟨S4x1x262144, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x1x262144, .f32⟩
  | .hbm, ⟨29, _⟩ => ⟨S4x1x262144, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S1, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S1, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S1, .f32⟩
  | .hbm, ⟨52, _⟩ => ⟨S65, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S1, .f32⟩
  | .hbm, ⟨60, _⟩ => ⟨S_, .f32⟩
  | .hbm, ⟨61, _⟩ => ⟨S1, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4x1x262144x1, .f32⟩
  | .hbm, ⟨67, _⟩ => ⟨S1x1x1x64, .f32⟩
  | .hbm, ⟨68, _⟩ => ⟨S4x1x262144x64, .f32⟩
  | .hbm, ⟨69, _⟩ => ⟨S4x1x262144x64, .f32⟩
  | .hbm, ⟨70, _⟩ => ⟨S4x1x262144x64, .f32⟩
  | .hbm, ⟨71, _⟩ => ⟨S4x1x262144x64, .f32⟩
  | .hbm, ⟨72, _⟩ => ⟨S4x1x262144x1, .f32⟩
  | .hbm, ⟨73, _⟩ => ⟨S1x1x1x64, .f32⟩
  | .hbm, ⟨74, _⟩ => ⟨S4x1x262144x64, .f32⟩
  | .hbm, ⟨75, _⟩ => ⟨S4x1x262144x64, .f32⟩
  | .hbm, ⟨76, _⟩ => ⟨S4x1x262144x64, .f32⟩
  | .hbm, ⟨77, _⟩ => ⟨S4x1x262144x64, .f32⟩
  | .hbm, ⟨78, _⟩ => ⟨S4x1x262144x64, .f32⟩
  | .hbm, ⟨79, _⟩ => ⟨S4x1x262144x64, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S4x1x262144x64, .f32⟩
  | .hbm, ⟨84, _⟩ => ⟨S4x1x262144x64, .f32⟩
  | .hbm, ⟨85, _⟩ => ⟨S4x1x262144x64, .f32⟩
  | .hbm, ⟨86, _⟩ => ⟨S_, .f32⟩
  | .hbm, ⟨87, _⟩ => ⟨S4x1x64, .f32⟩
  | .hbm, ⟨88, _⟩ => ⟨S_, .f32⟩
  | .hbm, ⟨89, _⟩ => ⟨S4x1x64, .f32⟩
  | .hbm, ⟨90, _⟩ => ⟨S4x1x64, .f32⟩
  | .hbm, ⟨91, _⟩ => ⟨S_, .f32⟩
  | .hbm, ⟨92, _⟩ => ⟨S4x1, .f32⟩
  | .hbm, ⟨93, _⟩ => ⟨S4x1x1, .f32⟩
  | .hbm, ⟨94, _⟩ => ⟨S_, .f32⟩
  | .hbm, ⟨95, _⟩ => ⟨S4x1x1, .f32⟩
  | .hbm, ⟨96, _⟩ => ⟨S4x1x1, .f32⟩
  | .hbm, ⟨97, _⟩ => ⟨S4x1x64, .f32⟩
  | .hbm, ⟨98, _⟩ => ⟨S4x1x64, .f32⟩
  | .hbm, ⟨99, _⟩ => ⟨S4x64, .f32⟩
  | .hbm, ⟨100, _⟩ => ⟨S_, .f32⟩
  | .hbm, ⟨101, _⟩ => ⟨S4, .f32⟩
  | .hbm, ⟨102, _⟩ => ⟨S4x1, .f32⟩
  | .hbm, ⟨103, _⟩ => ⟨S_, .f32⟩
  | .hbm, ⟨104, _⟩ => ⟨S64, .f32⟩
  | .hbm, ⟨105, _⟩ => ⟨S1x64, .f32⟩
  | .hbm, ⟨106, _⟩ => ⟨S4x64, .f32⟩
  | .hbm, ⟨107, _⟩ => ⟨S_, .f32⟩
  | .hbm, ⟨108, _⟩ => ⟨S4x64, .f32⟩
  | .hbm, ⟨109, _⟩ => ⟨S4x64, .f32⟩
  | .hbm, ⟨110, _⟩ => ⟨S_, .f32⟩
  | .hbm, ⟨111, _⟩ => ⟨S4x64, .f32⟩
  | .hbm, ⟨112, _⟩ => ⟨S4x64, .f32⟩
  | .hbm, ⟨113, _⟩ => ⟨S4x64, .f32⟩
  | .hbm, ⟨114, _⟩ => ⟨S_, .f32⟩
  | .hbm, ⟨115, _⟩ => ⟨S4x64, .f32⟩
  | .hbm, ⟨116, _⟩ => ⟨S4x64, .f32⟩
  | .hbm, ⟨117, _⟩ => ⟨S4x64, .f32⟩
  | .hbm, ⟨118, _⟩ => ⟨S4x64, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | _, _ => ⟨S4x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_cst_8 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_cst : Ref sig .tc := ⟨.hbm, 35, rfl⟩
abbrev main_call0_v3 : Ref sig .tc := ⟨.hbm, 36, rfl⟩
abbrev main_call0_v4 : Ref sig .tc := ⟨.hbm, 37, rfl⟩
abbrev main_call0_cst_0 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_v15 : Ref sig .tc := ⟨.hbm, 50, rfl⟩
abbrev main_call0_v16 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_9 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_10 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_11 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_12 : Ref sig .tc := ⟨.hbm, 86, rfl⟩
abbrev main_v51 : Ref sig .tc := ⟨.hbm, 87, rfl⟩
abbrev main_cst_13 : Ref sig .tc := ⟨.hbm, 88, rfl⟩
abbrev main_v52 : Ref sig .tc := ⟨.hbm, 89, rfl⟩
abbrev main_v53 : Ref sig .tc := ⟨.hbm, 90, rfl⟩
abbrev main_cst_14 : Ref sig .tc := ⟨.hbm, 91, rfl⟩
abbrev main_v54 : Ref sig .tc := ⟨.hbm, 92, rfl⟩
abbrev main_v55 : Ref sig .tc := ⟨.hbm, 93, rfl⟩
abbrev main_cst_15 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_16 : Ref sig .tc := ⟨.hbm, 100, rfl⟩
abbrev main_v61 : Ref sig .tc := ⟨.hbm, 101, rfl⟩
abbrev main_v62 : Ref sig .tc := ⟨.hbm, 102, rfl⟩
abbrev main_cst_17 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_18 : Ref sig .tc := ⟨.hbm, 107, rfl⟩
abbrev main_v66 : Ref sig .tc := ⟨.hbm, 108, rfl⟩
abbrev main_v67 : Ref sig .tc := ⟨.hbm, 109, rfl⟩
abbrev main_cst_19 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_20 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_21 : Ref sig .tc := ⟨.hbm, 119, rfl⟩
abbrev main_v75 : Ref sig .tc := ⟨.hbm, 120, rfl⟩
abbrev main_cst_22 : Ref sig .tc := ⟨.hbm, 121, rfl⟩
abbrev main_v76 : Ref sig .tc := ⟨.hbm, 122, rfl⟩
abbrev main_cst_23 : Ref sig .tc := ⟨.hbm, 123, rfl⟩
abbrev main_v77 : Ref sig .tc := ⟨.hbm, 124, rfl⟩

abbrev nD : Nat := 1
abbrev τ : Topo := Topo.v7x

variable {F : FTy → Type} [FloatOps F]
-- ==== Proof.Step.lean ====
/- One memory operation of a body at a time.

   The body of the kernel works on six buffers.  `Own` says what each of them holds, by index; every
   lemma below takes one load or store off the head of a program and leaves the rest of the program
   to prove, with what was read filled in or with the buffer changed. -/
module

public import Idealize.ShloMosaic.Lib.Pipeline.FrameBody
public import Idealize.ShloMosaic.Lib.Memref
public import Idealize.ShloMosaic.Lib.Tactic

@[expose] public section

noncomputable section

namespace Cert.MI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section General

variable {nD : Nat} {τ : Topo} {sig : RefSig} {Ix : Type} [DecidableEq Ix]
variable {Val : EltTy → Type} {Name : Type} [DecidableEq Name] {U : Type} [URA U]
variable {Lvl : Type} {Λ : Labels} [Preorder Lvl] {defs : Defs nD τ sig Val Λ}
variable {𝒱 : Variants} {c : Thread nD τ} {bd : Option 𝒱.V} {E : Set Name}

local notation "𝕄" => MT nD τ sig Ix Val Name U Lvl

variable {s : Shape} {e : EltTy} {α : Type} {Q : α → sProp (MT nD τ sig Ix Val Name U Lvl)}
variable {R : sProp (MT nD τ sig Ix Val Name U Lvl)}

/-- A load of an owned buffer: the program goes on with what the buffer holds at the rectangle. -/
theorem step_load {cs : CoreSpace} {m : Memref sig c.2.kind cs s e} {q : PosShare TreeShare} {X : s.Idx → Val e}
    {r : Rect s} {hl : m.view.LoadsAt r.toLoadRect} {k : (r.shape.Idx → Val e) → Prog (TpuEff nD τ sig Val Λ c.2) α}
    (hk : (iprop(owns c m q X ∗ R) : sProp 𝕄) ⊢ wp frame (wpE defs 𝒱 c bd) E (k (View.ld X r)) Q) :
    (iprop(owns c m q X ∗ R) : sProp 𝕄) ⊢ wp frame (wpE defs 𝒱 c bd) E (.op (.load m r hl) k) Q := by
  have h1 : ∀ f : m.view.ty.Contents Val, m.view.read Val f = X → m.view.readAt Val r.toLoadRect f = View.ld X r := by
    intro f hf; subst hf; rfl
  unfold owns at hk ⊢
  iintro ⟨⟨%f, %hf, H⟩, HR⟩
  iapply (wp_load 𝒱 c bd E (m := m) (r := r.toLoadRect) (hl := hl) (k := k) (S := m.view.set) (q := q) (f := f)
    (View.setOn_subset_set m.view r.set)) $$ H
  iintro H
  rw [h1 f hf]
  iapply hk
  isplitr [HR]
  · iexists f; isplitr
    · ipureintro; exact hf
    · iexact H
  · iexact HR

/-- A store into an owned buffer: it then holds any `X'` that is the value stored on the rectangle
    and what it was elsewhere. -/
theorem step_store {cs : CoreSpace} {m : Memref sig c.2.kind cs s e} {X X' : s.Idx → Val e}
    {r : Rect s} {w : r.shape.Idx → Val e} {hx : (m.access r).Stores Finset.univ}
    {hm : Finset.univ = Finset.univ ∨ ∀ a, r.stride a = 1} {k : PUnit → Prog (TpuEff nD τ sig Val Λ c.2) α}
    (hin : ∀ x, X' (r.emb x) = w x) (hout : ∀ y, y ∉ r.set → X' y = X y)
    (hk : (iprop(owns c m fullShare X' ∗ R) : sProp 𝕄) ⊢ wp frame (wpE defs 𝒱 c bd) E (k ⟨⟩) Q) :
    (iprop(owns c m fullShare X ∗ R) : sProp 𝕄) ⊢ wp frame (wpE defs 𝒱 c bd) E (.op (.store m r w Finset.univ hx hm) k) Q := by
  have h1 : ∀ f : m.view.ty.Contents Val, m.view.read Val f = X →
      m.view.read Val ((m.access r).write Val f w Finset.univ) = X' := by
    intro f hf; subst hf; funext y
    by_cases hy : y ∈ r.set
    · obtain ⟨x, rfl⟩ := r.exists_idx_of_mem hy
      exact (View.read_slice_write_emb r f w (Finset.mem_univ x)).trans (hin x).symm
    · rw [hout y hy]
      exact View.read_slice_write_of_not_mem r f w Finset.univ (by rw [Rect.map_emb_univ]; exact hy)
  unfold owns at hk ⊢
  iintro ⟨⟨%f, %hf, H⟩, HR⟩
  iapply (wp_store 𝒱 c bd E (m := m) (r := r) (w := w) (Mk := Finset.univ) (hx := hx) (hm := hm) (k := k)
    (S := m.view.set) (f := f) (View.set_slice_subset m.view r)) $$ H
  iintro H
  iapply hk
  isplitr [HR]
  · iexists _; isplitr
    · ipureintro; exact h1 f hf
    · iexact H
  · iexact HR

end General

section Six

variable {nD : Nat} {τ : Topo} {sig : RefSig} {Ix : Type} [DecidableEq Ix]
variable {Val : EltTy → Type} {Name : Type} [DecidableEq Name] {U : Type} [URA U]
variable {Lvl : Type} {Λ : Labels} [Preorder Lvl] {defs : Defs nD τ sig Val Λ}
variable {𝒱 : Variants} {c : Thread nD τ} {bd : Option 𝒱.V} {E : Set Name}

local notation "𝕄" => MT nD τ sig Ix Val Name U Lvl

variable {c2 c3 c4 c5 c6 c7 : CoreSpace} {s2 s3 s4 s5 s6 s7 : Shape} {e : EltTy} {α : Type} {Q : α → sProp (MT nD τ sig Ix Val Name U Lvl)}
variable {a2 : Memref sig c.2.kind c2 s2 e} {a3 : Memref sig c.2.kind c3 s3 e} {a4 : Memref sig c.2.kind c4 s4 e}
variable {a5 : Memref sig c.2.kind c5 s5 e} {a6 : Memref sig c.2.kind c6 s6 e} {a7 : Memref sig c.2.kind c7 s7 e}
variable {X1 : s2.Idx → Val e} {X2 : s3.Idx → Val e} {O O' : s4.Idx → Val e}
variable {M M' : s5.Idx → Val e} {H H' : s6.Idx → Val e} {V V' : s7.Idx → Val e}

/-- The six buffers of the body — the two image blocks, the result, the four bounds, the histograms and the
    running bounds by lane — and what each holds. -/
def Own (c : Thread nD τ) (a2 : Memref sig c.2.kind c2 s2 e) (a3 : Memref sig c.2.kind c3 s3 e)
    (a4 : Memref sig c.2.kind c4 s4 e) (a5 : Memref sig c.2.kind c5 s5 e) (a6 : Memref sig c.2.kind c6 s6 e)
    (a7 : Memref sig c.2.kind c7 s7 e) (X1 : s2.Idx → Val e) (X2 : s3.Idx → Val e) (O : s4.Idx → Val e)
    (M : s5.Idx → Val e) (H : s6.Idx → Val e) (V : s7.Idx → Val e) : sProp 𝕄 :=
  iprop(owns c a2 fullShare X1 ∗ owns c a3 fullShare X2 ∗ owns c a4 fullShare O ∗ owns c a5 fullShare M
    ∗ owns c a6 fullShare H ∗ owns c a7 fullShare V)

/-- Bring the second of three conjuncts to the front. -/
theorem swap (A B C : sProp 𝕄) : iprop(A ∗ B ∗ C) = iprop(B ∗ A ∗ C) :=
  BI.Entails.antisymm
    (show iprop(A ∗ B ∗ C) ⊢ iprop(B ∗ A ∗ C) from by
      iintro ⟨HA, HB, HC⟩; isplitl [HB]
      · iexact HB
      · isplitl [HA] <;> iassumption)
    (show iprop(B ∗ A ∗ C) ⊢ iprop(A ∗ B ∗ C) from by
      iintro ⟨HB, HA, HC⟩; isplitl [HA]
      · iexact HA
      · isplitl [HB] <;> iassumption)

/-- Two conjuncts in either order. -/
theorem flip (A B : sProp 𝕄) : iprop(A ∗ B) = iprop(B ∗ A) :=
  BI.Entails.antisymm
    (show iprop(A ∗ B) ⊢ iprop(B ∗ A) from by iintro ⟨HA, HB⟩; isplitl [HB] <;> iassumption)
    (show iprop(B ∗ A) ⊢ iprop(A ∗ B) from by iintro ⟨HB, HA⟩; isplitl [HA] <;> iassumption)

theorem own2 : (Own c a2 a3 a4 a5 a6 a7 X1 X2 O M H V : sProp 𝕄) = iprop(owns c a2 fullShare X1 ∗ owns c a3 fullShare X2
    ∗ owns c a4 fullShare O ∗ owns c a5 fullShare M ∗ owns c a6 fullShare H ∗ owns c a7 fullShare V) := rfl

theorem own3 : (Own c a2 a3 a4 a5 a6 a7 X1 X2 O M H V : sProp 𝕄) = iprop(owns c a3 fullShare X2 ∗ owns c a2 fullShare X1
    ∗ owns c a4 fullShare O ∗ owns c a5 fullShare M ∗ owns c a6 fullShare H ∗ owns c a7 fullShare V) := by
  rw [own2, swap]

theorem own4 : (Own c a2 a3 a4 a5 a6 a7 X1 X2 O M H V : sProp 𝕄) = iprop(owns c a4 fullShare O ∗ owns c a2 fullShare X1
    ∗ owns c a3 fullShare X2 ∗ owns c a5 fullShare M ∗ owns c a6 fullShare H ∗ owns c a7 fullShare V) := by
  rw [own2, swap (owns c a3 _ _), swap (owns c a2 _ _)]

theorem own5 : (Own c a2 a3 a4 a5 a6 a7 X1 X2 O M H V : sProp 𝕄) = iprop(owns c a5 fullShare M ∗ owns c a2 fullShare X1
    ∗ owns c a3 fullShare X2 ∗ owns c a4 fullShare O ∗ owns c a6 fullShare H ∗ owns c a7 fullShare V) := by
  rw [own2, swap (owns c a4 _ _), swap (owns c a3 _ _), swap (owns c a2 _ _)]

theorem own6 : (Own c a2 a3 a4 a5 a6 a7 X1 X2 O M H V : sProp 𝕄) = iprop(owns c a6 fullShare H ∗ owns c a2 fullShare X1
    ∗ owns c a3 fullShare X2 ∗ owns c a4 fullShare O ∗ owns c a5 fullShare M ∗ owns c a7 fullShare V) := by
  rw [own2, swap (owns c a5 _ _), swap (owns c a4 _ _), swap (owns c a3 _ _),
    swap (owns c a2 _ _)]

theorem own7 : (Own c a2 a3 a4 a5 a6 a7 X1 X2 O M H V : sProp 𝕄) = iprop(owns c a7 fullShare V ∗ owns c a2 fullShare X1
    ∗ owns c a3 fullShare X2 ∗ owns c a4 fullShare O ∗ owns c a5 fullShare M ∗ owns c a6 fullShare H) := by
  rw [own2, flip (owns c a6 _ _), swap (owns c a5 _ _), swap (owns c a4 _ _),
    swap (owns c a3 _ _), swap (owns c a2 _ _)]

/-- A load of buffer 2. -/
theorem ld2 {r : Rect s2} {hl : a2.view.LoadsAt r.toLoadRect} {k : (r.shape.Idx → Val e) → Prog (TpuEff nD τ sig Val Λ c.2) α}
    (hk : (Own c a2 a3 a4 a5 a6 a7 X1 X2 O M H V : sProp 𝕄) ⊢ wp frame (wpE defs 𝒱 c bd) E (k (View.ld X1 r)) Q) :
    (Own c a2 a3 a4 a5 a6 a7 X1 X2 O M H V : sProp 𝕄) ⊢ wp frame (wpE defs 𝒱 c bd) E (.op (.load a2 r.toLoadRect hl) k) Q := by
  rw [own2] at hk ⊢; exact step_load hk

/-- A load of buffer 3. -/
theorem ld3 {r : Rect s3} {hl : a3.view.LoadsAt r.toLoadRect} {k : (r.shape.Idx → Val e) → Prog (TpuEff nD τ sig Val Λ c.2) α}
    (hk : (Own c a2 a3 a4 a5 a6 a7 X1 X2 O M H V : sProp 𝕄) ⊢ wp frame (wpE defs 𝒱 c bd) E (k (View.ld X2 r)) Q) :
    (Own c a2 a3 a4 a5 a6 a7 X1 X2 O M H V : sProp 𝕄) ⊢ wp frame (wpE defs 𝒱 c bd) E (.op (.load a3 r.toLoadRect hl) k) Q := by
  rw [own3] at hk ⊢; exact step_load hk

/-- A load of buffer 4. -/
theorem ld4 {r : Rect s4} {hl : a4.view.LoadsAt r.toLoadRect} {k : (r.shape.Idx → Val e) → Prog (TpuEff nD τ sig Val Λ c.2) α}
    (hk : (Own c a2 a3 a4 a5 a6 a7 X1 X2 O M H V : sProp 𝕄) ⊢ wp frame (wpE defs 𝒱 c bd) E (k (View.ld O r)) Q) :
    (Own c a2 a3 a4 a5 a6 a7 X1 X2 O M H V : sProp 𝕄) ⊢ wp frame (wpE defs 𝒱 c bd) E (.op (.load a4 r.toLoadRect hl) k) Q := by
  rw [own4] at hk ⊢; exact step_load hk

/-- A load of buffer 5. -/
theorem ld5 {r : Rect s5} {hl : a5.view.LoadsAt r.toLoadRect} {k : (r.shape.Idx → Val e) → Prog (TpuEff nD τ sig Val Λ c.2) α}
    (hk : (Own c a2 a3 a4 a5 a6 a7 X1 X2 O M H V : sProp 𝕄) ⊢ wp frame (wpE defs 𝒱 c bd) E (k (View.ld M r)) Q) :
    (Own c a2 a3 a4 a5 a6 a7 X1 X2 O M H V : sProp 𝕄) ⊢ wp frame (wpE defs 𝒱 c bd) E (.op (.load a5 r.toLoadRect hl) k) Q := by
  rw [own5] at hk ⊢; exact step_load hk

/-- A load of buffer 6. -/
theorem ld6 {r : Rect s6} {hl : a6.view.LoadsAt r.toLoadRect} {k : (r.shape.Idx → Val e) → Prog (TpuEff nD τ sig Val Λ c.2) α}
    (hk : (Own c a2 a3 a4 a5 a6 a7 X1 X2 O M H V : sProp 𝕄) ⊢ wp frame (wpE defs 𝒱 c bd) E (k (View.ld H r)) Q) :
    (Own c a2 a3 a4 a5 a6 a7 X1 X2 O M H V : sProp 𝕄) ⊢ wp frame (wpE defs 𝒱 c bd) E (.op (.load a6 r.toLoadRect hl) k) Q := by
  rw [own6] at hk ⊢; exact step_load hk

/-- A load of buffer 7. -/
theorem ld7 {r : Rect s7} {hl : a7.view.LoadsAt r.toLoadRect} {k : (r.shape.Idx → Val e) → Prog (TpuEff nD τ sig Val Λ c.2) α}
    (hk : (Own c a2 a3 a4 a5 a6 a7 X1 X2 O M H V : sProp 𝕄) ⊢ wp frame (wpE defs 𝒱 c bd) E (k (View.ld V r)) Q) :
    (Own c a2 a3 a4 a5 a6 a7 X1 X2 O M H V : sProp 𝕄) ⊢ wp frame (wpE defs 𝒱 c bd) E (.op (.load a7 r.toLoadRect hl) k) Q := by
  rw [own7] at hk ⊢; exact step_load hk

/-- A store into buffer 6. -/
theorem st6 {r : Rect s6} {w : r.shape.Idx → Val e} {hx : (a6.access r).Stores Finset.univ}
    {hm : Finset.univ = Finset.univ ∨ ∀ a, r.stride a = 1} {k : PUnit → Prog (TpuEff nD τ sig Val Λ c.2) α}
    (hin : ∀ x, H' (r.emb x) = w x) (hout : ∀ y, y ∉ r.set → H' y = H y)
    (hk : (Own c a2 a3 a4 a5 a6 a7 X1 X2 O M H' V : sProp 𝕄) ⊢ wp frame (wpE defs 𝒱 c bd) E (k ⟨⟩) Q) :
    (Own c a2 a3 a4 a5 a6 a7 X1 X2 O M H V : sProp 𝕄) ⊢ wp frame (wpE defs 𝒱 c bd) E (.op (.store a6 r w Finset.univ hx hm) k) Q := by
  rw [own6] at hk ⊢; exact step_store hin hout hk

/-- A store into buffer 7. -/
theorem st7 {r : Rect s7} {w : r.shape.Idx → Val e} {hx : (a7.access r).Stores Finset.univ}
    {hm : Finset.univ = Finset.univ ∨ ∀ a, r.stride a = 1} {k : PUnit → Prog (TpuEff nD τ sig Val Λ c.2) α}
    (hin : ∀ x, V' (r.emb x) = w x) (hout : ∀ y, y ∉ r.set → V' y = V y)
    (hk : (Own c a2 a3 a4 a5 a6 a7 X1 X2 O M H V' : sProp 𝕄) ⊢ wp frame (wpE defs 𝒱 c bd) E (k ⟨⟩) Q) :
    (Own c a2 a3 a4 a5 a6 a7 X1 X2 O M H V : sProp 𝕄) ⊢ wp frame (wpE defs 𝒱 c bd) E (.op (.store a7 r w Finset.univ hx hm) k) Q := by
  rw [own7] at hk ⊢; exact step_store hin hout hk

/-- A store into buffer 4. -/
theorem st4 {r : Rect s4} {w : r.shape.Idx → Val e} {hx : (a4.access r).Stores Finset.univ}
    {hm : Finset.univ = Finset.univ ∨ ∀ a, r.stride a = 1} {k : PUnit → Prog (TpuEff nD τ sig Val Λ c.2) α}
    (hin : ∀ x, O' (r.emb x) = w x) (hout : ∀ y, y ∉ r.set → O' y = O y)
    (hk : (Own c a2 a3 a4 a5 a6 a7 X1 X2 O' M H V : sProp 𝕄) ⊢ wp frame (wpE defs 𝒱 c bd) E (k ⟨⟩) Q) :
    (Own c a2 a3 a4 a5 a6 a7 X1 X2 O M H V : sProp 𝕄) ⊢ wp frame (wpE defs 𝒱 c bd) E (.op (.store a4 r w Finset.univ hx hm) k) Q := by
  rw [own4] at hk ⊢; exact step_store hin hout hk

/-- A store into buffer 5. -/
theorem st5 {r : Rect s5} {w : r.shape.Idx → Val e} {hx : (a5.access r).Stores Finset.univ}
    {hm : Finset.univ = Finset.univ ∨ ∀ a, r.stride a = 1} {k : PUnit → Prog (TpuEff nD τ sig Val Λ c.2) α}
    (hin : ∀ x, M' (r.emb x) = w x) (hout : ∀ y, y ∉ r.set → M' y = M y)
    (hk : (Own c a2 a3 a4 a5 a6 a7 X1 X2 O M' H V : sProp 𝕄) ⊢ wp frame (wpE defs 𝒱 c bd) E (k ⟨⟩) Q) :
    (Own c a2 a3 a4 a5 a6 a7 X1 X2 O M H V : sProp 𝕄) ⊢ wp frame (wpE defs 𝒱 c bd) E (.op (.store a5 r w Finset.univ hx hm) k) Q := by
  rw [own5] at hk ⊢; exact step_store hin hout hk

end Six
end Cert.MI
-- ==== Proof.Model.lean ====
/- What the body computes, written as functions of what its buffers hold.

   One visit of an image pair runs over 32 slabs of 16 rows; a slab is two tiles of 8 rows, and each of
   the 64 bins of a slab adds one 8×128 tile (`tile`) to the bin's histogram tile.  `Hst` is the state of
   the histogram buffer between two bins. -/
module

public import proofs.«01_k».proof.Proof.Step
public import Idealize.ShloMosaic.Lib.ValueLayout

@[expose] public section

noncomputable section

namespace Cert.MI

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

abbrev T1x512x512 : Shape := ⟨3, ![1, 512, 512]⟩
abbrev T1x8x512 : Shape := ⟨3, ![1, 8, 512]⟩
abbrev T8x512 : Shape := ⟨2, ![8, 512]⟩
abbrev T8x128 : Shape := ⟨2, ![8, 128]⟩
abbrev T1x1x8x128 : Shape := ⟨4, ![1, 1, 8, 128]⟩
abbrev T4x64x8x128 : Shape := ⟨4, ![4, 64, 8, 128]⟩
abbrev T8 : Shape := ⟨1, ![8]⟩
abbrev T1 : Shape := ⟨1, ![1]⟩

theorem casts_row : T1x8x512.ShapeCasts T8x512 := by decide
theorem casts_tile : T8x128.ShapeCasts T1x1x8x128 := by decide
theorem casts_tile' : T1x1x8x128.ShapeCasts T8x128 := by decide
theorem slices_0 : T8x512.Slices ![0, 0] T8x128 := by decide
theorem slices_128 : T8x512.Slices ![0, 128] T8x128 := by decide
theorem slices_256 : T8x512.Slices ![0, 256] T8x128 := by decide
theorem slices_384 : T8x512.Slices ![0, 384] T8x128 := by decide

theorem inb_row (k : ℕ) : ∀ a, (![0, 8 * k % 512, 0] : Fin 3 → ℕ) a + T1x8x512.size a ≤ T1x512x512.size a := by
  intro a; fin_cases a
  · show 0 + 1 ≤ 1; omega
  · show 8 * k % 512 + 8 ≤ 512; omega
  · show 0 + 512 ≤ 512; omega

variable {F : FTy → Type} [FloatOps F]

/-- The numbers one visit works with: the constants of the program and the scalars it computed for the two images
    (lower bound and inverse range of each). -/
structure Par (F : FTy → Type) where
  kq : F .f32
  sqk : F .f32
  dlt2 : F .f32
  dltsq : F .f32
  dltsq2 : F .f32
  cb0 : F .f32
  cb16 : F .f32
  cb32 : F .f32
  cb48 : F .f32
  mn1 : F .f32
  mn2 : F .f32
  inv1 : F .f32
  inv2 : F .f32
  X1 : FVec F T1x512x512 .f32
  X2 : FVec F T1x512x512 .f32

/-- The offset of the first bin of a run of 16. -/
def Par.cb (P : Par F) : ℕ → F .f32
  | 0 => P.cb0
  | 1 => P.cb16
  | 2 => P.cb32
  | _ => P.cb48

/-- The eight rows of an image block that start at row `8 k`. -/
def rows (X : FVec F T1x512x512 .f32) (k : ℕ) : FVec F T8x512 .f32 :=
  shapeCast T8x512 (View.ld (Val := Elt F) (e' := .f32) X (Rect.unit (s := T1x512x512) ![0, 8 * k % 512, 0] T1x8x512.size (inb_row k))) casts_row

/-- Half of each normalised pixel, before the lower bounds are taken off. -/
def half1 (P : Par F) (k : ℕ) : FVec F T8x512 .f32 :=
  mulf (rows P.X1 k) (broadcast T8x512 (Scalar.mulf (Scalar.ofBits .f32 0x3F000000#32) P.inv1))

def half2 (P : Par F) (k : ℕ) : FVec F T8x512 .f32 :=
  mulf (rows P.X2 k) (broadcast T8x512 (Scalar.mulf (Scalar.ofBits .f32 0x3F000000#32) P.inv2))

/-- The scaled mean of the two normalised pixels. -/
def zs (P : Par F) (k : ℕ) : FVec F T8x512 .f32 :=
  mulf (subf (addf (half1 P k) (half2 P k)) (broadcast T8x512 (Scalar.mulf (Scalar.ofBits .f32 0x3F000000#32)
    (Scalar.addf (Scalar.mulf P.mn1 P.inv1) (Scalar.mulf P.mn2 P.inv2))))) (broadcast T8x512 P.sqk)

/-- The difference of the two normalised pixels. -/
def diff (P : Par F) (k : ℕ) : FVec F T8x512 .f32 :=
  addf (mulf (subf (half1 P k) (half2 P k)) (broadcast T8x512 (Scalar.ofBits .f32 0x40000000#32)))
    (broadcast T8x512 (Scalar.subf (Scalar.mulf P.mn2 P.inv2) (Scalar.mulf P.mn1 P.inv1)))

/-- The part of the exponent that does not depend on the bin. -/
def hh (P : Par F) (k : ℕ) : FVec F T8x512 .f32 :=
  mulf (mulf (diff P k) (diff P k)) (broadcast T8x512 P.kq)

/-- The mean's distance from the first bin of run `g`. -/
def zc (P : Par F) (k g : ℕ) : FVec F T8x512 .f32 := subf (zs P k) (broadcast T8x512 (P.cb g))

/-- The step of the exponent from one bin of a run to the next. -/
def stp (P : Par F) (k g : ℕ) : ℕ → FVec F T8x512 .f32
  | 0 => subf (mulf (zc P k g) (broadcast T8x512 P.dlt2)) (broadcast T8x512 P.dltsq)
  | j + 1 => subf (stp P k g j) (broadcast T8x512 P.dltsq2)

/-- The exponent at bin `16 g + j`. -/
def expo (P : Par F) (k g : ℕ) : ℕ → FVec F T8x512 .f32
  | 0 => subf (hh P k) (mulf (zc P k g) (zc P k g))
  | j + 1 => addf (expo P k g j) (stp P k g j)

/-- The four 128-lane pieces of a tile of 512 lanes, added. -/
def sum4 (x : FVec F T8x512 .f32) : FVec F T8x128 .f32 :=
  addf (addf (extractStridedSlice T8x128 ![0, 0] x slices_0) (extractStridedSlice T8x128 ![0, 128] x slices_128))
    (addf (extractStridedSlice T8x128 ![0, 256] x slices_256) (extractStridedSlice T8x128 ![0, 384] x slices_384))

/-- What slab `s` adds to bin `n`. -/
def tile (P : Par F) (s n : ℕ) : FVec F T8x128 .f32 :=
  addf (sum4 (exp2 (expo P (2 * s) (n / 16) (n % 16)))) (sum4 (exp2 (expo P (2 * s + 1) (n / 16) (n % 16))))

/-- The sum of the first `s + 1` slabs at bin `n`. -/
def acc (P : Par F) : ℕ → ℕ → FVec F T8x128 .f32
  | 0, n => tile P 0 n
  | s + 1, n => addf (acc P s n) (tile P (s + 1) n)

/-- The lane of a histogram index. -/
def lane (j : T4x64x8x128.Idx) : T8x128.Idx := ix2 (j 2) (j 3)

/-- The histogram buffer while image pair `ρ` is visited, `s` slabs and the first `n` bins of the next one done. -/
def Hst (ρ : ℕ) (H0 : FVec F T4x64x8x128 .f32) (P : Par F) (s n : ℕ) : FVec F T4x64x8x128 .f32 := fun j =>
  if (j 0).val = ρ then
    match (if (j 1).val < n then s + 1 else s) with
    | 0 => H0 j
    | s' + 1 => acc P s' (j 1) (lane j)
  else H0 j

/-- After the last bin of a slab the next slab is under way. -/
theorem Hst_next (ρ : ℕ) (H0 : FVec F T4x64x8x128 .f32) (P : Par F) (s : ℕ) : Hst ρ H0 P s 64 = Hst ρ H0 P (s + 1) 0 := by
  funext j
  have h : (j 1).val < 64 := (j 1).isLt
  simp [Hst, h]

/-- Before the first bin of the first slab the buffer is what it was. -/
theorem Hst_zero (ρ : ℕ) (H0 : FVec F T4x64x8x128 .f32) (P : Par F) : Hst ρ H0 P 0 0 = H0 := by
  funext j
  simp [Hst]

/-- The rectangle of one tile of the histogram buffer. -/
theorem tile_idx {off : Fin 4 → ℕ} {inb} {ρ n : ℕ} (hoff : off = ![ρ, n, 0, 0]) (x : T1x1x8x128.Idx) :
    (((Rect.unit (s := T4x64x8x128) off T1x1x8x128.size inb).idx x : T4x64x8x128.Idx) 0).val = ρ ∧
    (((Rect.unit (s := T4x64x8x128) off T1x1x8x128.size inb).idx x : T4x64x8x128.Idx) 1).val = n ∧
    lane ((Rect.unit (s := T4x64x8x128) off T1x1x8x128.size inb).idx x) = ix2 (x 2) (x 3) := by
  subst hoff
  have h0 : (x 0).val = 0 := Nat.lt_one_iff.mp (x 0).isLt
  have h1 : (x 1).val = 0 := Nat.lt_one_iff.mp (x 1).isLt
  refine ⟨?_, ?_, ?_⟩
  · show ρ + 1 * (x 0).val = ρ
    omega
  · show n + 1 * (x 1).val = n
    omega
  · funext a
    match a with
    | ⟨0, _⟩ => apply Fin.ext; show 0 + 1 * (x 2).val = (x 2).val; omega
    | ⟨1, _⟩ => apply Fin.ext; show 0 + 1 * (x 3).val = (x 3).val; omega

/-- A tile as a 1×1×8×128 block, by index. -/
theorem cast_tile {α : Type} (t : T8x128.Idx → α) (x : T1x1x8x128.Idx) :
    shapeCast T1x1x8x128 t casts_tile x = t (ix2 (x 2) (x 3)) := by
  refine congrArg t ?_
  have h0 : (x 0).val = 0 := Nat.lt_one_iff.mp (x 0).isLt
  have h1 : (x 1).val = 0 := Nat.lt_one_iff.mp (x 1).isLt
  refine Shape.reshapeEquiv_eq_of_rowMajor _ ?_
  rw [Shape.rowMajor_val_four, Shape.rowMajor_val_two]
  show (x 2).val * 128 + (x 3).val = (((x 0).val * 1 + (x 1).val) * 8 + (x 2).val) * 128 + (x 3).val
  rw [h0, h1]; omega

/-- A 1×1×8×128 block as a tile, by index. -/
theorem cast_tile' {α : Type} (t : T1x1x8x128.Idx → α) (y : T8x128.Idx) :
    shapeCast T8x128 t casts_tile' y = t (ix4 (0 : Fin 1) (0 : Fin 1) (y 0) (y 1)) := by
  refine congrArg t ?_
  refine Shape.reshapeEquiv_eq_of_rowMajor _ ?_
  rw [Shape.rowMajor_val_four, Shape.rowMajor_val_two]
  show (((0 : ℕ) * 1 + 0) * 8 + (y 0).val) * 128 + (y 1).val = (y 0).val * 128 + (y 1).val
  omega

abbrev T4x8x128 : Shape := ⟨3, ![4, 8, 128]⟩
abbrev T1x8x128 : Shape := ⟨3, ![1, 8, 128]⟩
abbrev T1x1x1 : Shape := ⟨3, ![1, 1, 1]⟩

theorem inb_lane (n : ℕ) : ∀ a, (![n % 4, 0, 0] : Fin 3 → ℕ) a + T1x8x128.size a ≤ T4x8x128.size a := by
  intro a; fin_cases a
  · show n % 4 + 1 ≤ 4; omega
  · show 0 + 8 ≤ 8; omega
  · show 0 + 128 ≤ 128; omega
theorem inb_bound (n : ℕ) : ∀ a, (![n % 8] : Fin 1 → ℕ) a + T1.size a ≤ T8.size a := by
  intro a; fin_cases a
  show n % 8 + 1 ≤ 8; omega
theorem casts_plane : T1x8x128.ShapeCasts T8x128 := by decide
theorem casts_plane' : T8x128.ShapeCasts T1x8x128 := by decide
theorem casts_one : T1.ShapeCasts T1x1x1 := by decide
theorem reduces_plane : T1x8x128.Reduces [1, 2] T1 := by decide
theorem inpos_one : ∀ a, (![0, 0, 0] : Fin 3 → ℕ) a < T1x1x1.size a := by decide

/-- Plane `n` of the running bounds. -/
def plane (V : FVec F T4x8x128 .f32) (n : ℕ) : FVec F T8x128 .f32 :=
  shapeCast T8x128 (View.ld (Val := Elt F) (e' := .f32) V (Rect.unit (s := T4x8x128) ![n % 4, 0, 0] T1x8x128.size (inb_lane n)))
    casts_plane

/-- The least number of plane `n`. -/
def least (V : FVec F T4x8x128 .f32) (n : ℕ) : F .f32 :=
  extractAt ![0, 0, 0] (shapeCast T1x1x1 (multiReduction .minimumf [1, 2] T1 (shapeCast T1x8x128 (plane V n) casts_plane')
    0x7F800000#32 reduces_plane (.inl rfl) rfl) casts_one) inpos_one

/-- The greatest number of plane `n`. -/
def greatest (V : FVec F T4x8x128 .f32) (n : ℕ) : F .f32 :=
  extractAt ![0, 0, 0] (shapeCast T1x1x1 (multiReduction .maximumf [1, 2] T1 (shapeCast T1x8x128 (plane V n) casts_plane')
    0xFF800000#32 reduces_plane (.inl rfl) rfl) casts_one) inpos_one

/-- What bound `n` is of the planes. -/
def pick (V : FVec F T4x8x128 .f32) : ℕ → F .f32
  | 0 => least V 0
  | 1 => greatest V 1
  | 2 => least V 2
  | _ => greatest V 3

/-- The four bounds after the first `n` of them have been stored. -/
def bounds (V : FVec F T4x8x128 .f32) (M : FVec F T8 .f32) (n : ℕ) : FVec F T8 .f32 := fun j =>
  if (j 0).val < n then pick V (j 0).val else M j

/-- Bound `n`, as loaded. -/
def bound (M : FVec F T8 .f32) (n : ℕ) : F .f32 :=
  View.ld (Val := Elt F) (e' := .f32) M (Rect.unit (s := T8) ![n % 8] T1.size (inb_bound n)) (Shape.Idx.first Nat.one_pos)

theorem bounds_zero (V : FVec F T4x8x128 .f32) (M : FVec F T8 .f32) : bounds V M 0 = M := by
  funext j; simp [bounds]

/-- Storing bound `n` moves on by one; on the element stored … -/
theorem bounds_in {V : FVec F T4x8x128 .f32} {M : FVec F T8 .f32} {n : ℕ} {off : Fin 1 → ℕ}
    {inb : ∀ a, off a + T1.size a ≤ T8.size a} (hoff : off = ![n]) {w : F .f32}
    (hw : w = pick V n) (x : T1.Idx) :
    bounds V M (n + 1) ((Rect.unit (s := T8) off T1.size inb).emb x) = w := by
  have h : (((Rect.unit (s := T8) off T1.size inb).emb x : T8.Idx) 0).val = n := by
    subst hoff
    have h0 : (x 0).val = 0 := Nat.lt_one_iff.mp (x 0).isLt
    show n + 1 * (x 0).val = n
    omega
  subst hw
  unfold bounds
  rw [if_pos (by omega), h]

/-- … and elsewhere. -/
theorem bounds_out {V : FVec F T4x8x128 .f32} {M : FVec F T8 .f32} {n : ℕ} {off : Fin 1 → ℕ}
    {inb : ∀ a, off a + T1.size a ≤ T8.size a} (hoff : off = ![n]) (y : T8.Idx)
    (hy : y ∉ (Rect.unit (s := T8) off T1.size inb).set) : bounds V M (n + 1) y = bounds V M n y := by
  have h : (y 0).val ≠ n := by
    intro h
    apply hy
    rw [Rect.mem_set_unit]
    subst hoff
    intro a
    match a with
    | ⟨0, _⟩ => show n ≤ (y 0).val ∧ (y 0).val < n + 1; omega
  unfold bounds
  by_cases h' : (y 0).val < n
  · rw [if_pos h', if_pos (by omega)]
  · rw [if_neg h', if_neg (by omega)]

/-! The last step: the mutual information of the histograms. -/

abbrev T4x64x128 : Shape := ⟨3, ![4, 64, 128]⟩
abbrev T4x64 : Shape := ⟨2, ![4, 64]⟩
abbrev T4 : Shape := ⟨1, ![4]⟩
abbrev T4x1 : Shape := ⟨2, ![4, 1]⟩
abbrev T64 : Shape := ⟨1, ![64]⟩
abbrev T1x64 : Shape := ⟨2, ![1, 64]⟩
abbrev T1x4x64 : Shape := ⟨3, ![1, 4, 64]⟩

theorem inb_all : ∀ a, (![0, 0, 0, 0] : Fin 4 → ℕ) a + T4x64x8x128.size a ≤ T4x64x8x128.size a := by decide

/-- The histogram of each pair: the tiles summed, over the number of pixels. -/
def hist (H : FVec F T4x64x8x128 .f32) : FVec F T4x64 .f32 :=
  mulf (multiReduction .add [2] T4x64 (multiReduction .add [2] T4x64x128 (View.ld (Val := Elt F) (e' := .f32) H
    (Rect.unit (s := T4x64x8x128) ![0, 0, 0, 0] T4x64x8x128.size inb_all)) 0x00000000#32 (by decide) (.inl rfl) rfl)
    0x00000000#32 (by decide) (.inl rfl) rfl) (broadcast T4x64 (Scalar.ofBits .f32 0x35800000#32))

/-- Each pair's histogram over its own sum. -/
def prob (H : FVec F T4x64x8x128 .f32) : FVec F T4x64 .f32 :=
  divf (hist H) (broadcastTo T4x64 (addf (shapeCast T4x1 (multiReduction .add [1] T4 (hist H) 0x00000000#32 (by decide) (.inl rfl) rfl)
    (by decide)) (broadcast T4x1 (Scalar.ofBits .f32 0x34000000#32))) (by decide))

/-- The product of the two marginals. -/
def marg (H : FVec F T4x64x8x128 .f32) : FVec F T4x64 .f32 :=
  mulf (broadcastTo T4x64 (shapeCast T4x1 (multiReduction .add [1] T4 (prob H) 0x00000000#32 (by decide) (.inl rfl) rfl) (by decide)) (by decide))
    (broadcastTo T4x64 (shapeCast T1x64 (multiReduction .add [0] T64 (prob H) 0x00000000#32 (by decide) (.inl rfl) rfl) (by decide)) (by decide))

/-- The terms of the mutual information. -/
def terms (H : FVec F T4x64x8x128 .f32) : FVec F T4x64 .f32 :=
  mulf (prob H) (log (addf (divf (addf (prob H) (broadcast T4x64 (Scalar.ofBits .f32 0x34000000#32)))
    (addf (marg H) (broadcast T4x64 (Scalar.ofBits .f32 0x34000000#32)))) (broadcast T4x64 (Scalar.ofBits .f32 0x34000000#32))))

/-- The result. -/
def miOf (H : FVec F T4x64x8x128 .f32) : F .f32 :=
  extractAt ![0, 0, 0] (shapeCast T1x1x1 (multiReduction .add [1, 2] T1 (shapeCast T1x4x64 (terms H) (by decide)) 0x00000000#32 (by decide)
    (.inl rfl) rfl) casts_one) inpos_one

/-- The numbers of a visit, from the constants, the four bounds and the two blocks. -/
def mkPar (kq sqk dlt2 dltsq dltsq2 cb0 cb16 cb32 cb48 : F .f32) (M : FVec F T8 .f32) (X1 X2 : FVec F T1x512x512 .f32) : Par F where
  kq := kq
  sqk := sqk
  dlt2 := dlt2
  dltsq := dltsq
  dltsq2 := dltsq2
  cb0 := cb0
  cb16 := cb16
  cb32 := cb32
  cb48 := cb48
  mn1 := bound M 0
  mn2 := bound M 2
  inv1 := Scalar.divf (Scalar.ofBits .f32 0x3F800000#32)
    (Scalar.addf (Scalar.subf (bound M 1) (bound M 0)) (Scalar.ofBits .f32 0x34000000#32))
  inv2 := Scalar.divf (Scalar.ofBits .f32 0x3F800000#32)
    (Scalar.addf (Scalar.subf (bound M 3) (bound M 2)) (Scalar.ofBits .f32 0x34000000#32))
  X1 := X1
  X2 := X2

/-! The first pass: the least and the greatest pixel of each lane. -/

abbrev T512x512 : Shape := ⟨2, ![512, 512]⟩

theorem inb_whole : ∀ a, (![0, 0, 0] : Fin 3 → ℕ) a + T1x512x512.size a ≤ T1x512x512.size a := by decide
theorem casts_whole : T1x512x512.ShapeCasts T512x512 := by decide
theorem slices_rows (k : ℕ) : T512x512.Slices ![8 * k % 512, 0] T8x512 := by
  refine ⟨rfl, fun a => ?_⟩
  fin_cases a
  · show 8 * k % 512 + 8 ≤ 512; omega
  · show 0 + 512 ≤ 512; omega

/-- Eight rows of a block loaded whole. -/
def band (X : FVec F T1x512x512 .f32) (k : ℕ) : FVec F T8x512 .f32 :=
  extractStridedSlice T8x512 ![8 * k % 512, 0] (shapeCast T512x512 (View.ld (Val := Elt F) (e' := .f32) X
    (Rect.unit (s := T1x512x512) ![0, 0, 0] T1x512x512.size inb_whole)) casts_whole) (slices_rows k)

def lower (X : FVec F T1x512x512 .f32) : ℕ → FVec F T8x512 .f32
  | 0 => band X 0
  | k + 1 => minimumf (lower X k) (band X (k + 1))

def upper (X : FVec F T1x512x512 .f32) : ℕ → FVec F T8x512 .f32
  | 0 => band X 0
  | k + 1 => maximumf (upper X k) (band X (k + 1))

def min4 (x : FVec F T8x512 .f32) : FVec F T8x128 .f32 :=
  minimumf (minimumf (extractStridedSlice T8x128 ![0, 0] x slices_0) (extractStridedSlice T8x128 ![0, 128] x slices_128))
    (minimumf (extractStridedSlice T8x128 ![0, 256] x slices_256) (extractStridedSlice T8x128 ![0, 384] x slices_384))

def max4 (x : FVec F T8x512 .f32) : FVec F T8x128 .f32 :=
  maximumf (maximumf (extractStridedSlice T8x128 ![0, 0] x slices_0) (extractStridedSlice T8x128 ![0, 128] x slices_128))
    (maximumf (extractStridedSlice T8x128 ![0, 256] x slices_256) (extractStridedSlice T8x128 ![0, 384] x slices_384))

/-- The four planes of one image pair: least and greatest of the first image, then of the second. -/
def fresh (X1 X2 : FVec F T1x512x512 .f32) : ℕ → FVec F T8x128 .f32
  | 0 => min4 (lower X1 63)
  | 1 => max4 (upper X1 63)
  | 2 => min4 (lower X2 63)
  | _ => max4 (upper X2 63)

/-- The planes put together with those of the image pairs before. -/
def joined (V : FVec F T4x8x128 .f32) (X1 X2 : FVec F T1x512x512 .f32) : ℕ → FVec F T8x128 .f32
  | 0 => minimumf (plane V 0) (fresh X1 X2 0)
  | 1 => maximumf (plane V 1) (fresh X1 X2 1)
  | 2 => minimumf (plane V 2) (fresh X1 X2 2)
  | _ => maximumf (plane V 3) (fresh X1 X2 3)

/-- The running bounds with the first `n` planes replaced. -/
def planes (W : ℕ → FVec F T8x128 .f32) (V : FVec F T4x8x128 .f32) (n : ℕ) : FVec F T4x8x128 .f32 := fun j =>
  if (j 0).val < n then W (j 0).val (ix2 (j 1) (j 2)) else V j

theorem planes_zero (W : ℕ → FVec F T8x128 .f32) (V : FVec F T4x8x128 .f32) : planes W V 0 = V := by
  funext j; simp [planes]

/-- The rectangle of one plane. -/
theorem plane_idx {off : Fin 3 → ℕ} {inb} {n : ℕ} (hoff : off = ![n, 0, 0]) (x : T1x8x128.Idx) :
    (((Rect.unit (s := T4x8x128) off T1x8x128.size inb).idx x : T4x8x128.Idx) 0).val = n ∧
    (((Rect.unit (s := T4x8x128) off T1x8x128.size inb).idx x : T4x8x128.Idx) 1).val = (x 1).val ∧
    (((Rect.unit (s := T4x8x128) off T1x8x128.size inb).idx x : T4x8x128.Idx) 2).val = (x 2).val := by
  subst hoff
  have h0 : (x 0).val = 0 := Nat.lt_one_iff.mp (x 0).isLt
  refine ⟨?_, ?_, ?_⟩
  · show n + 1 * (x 0).val = n
    omega
  · show 0 + 1 * (x 1).val = (x 1).val
    omega
  · show 0 + 1 * (x 2).val = (x 2).val
    omega

/-- Storing the right plane moves on by one; on the plane … -/
theorem plane_in {W : ℕ → FVec F T8x128 .f32} {V : FVec F T4x8x128 .f32} {n : ℕ} {off : Fin 3 → ℕ}
    {inb : ∀ a, off a + T1x8x128.size a ≤ T4x8x128.size a} (hoff : off = ![n, 0, 0]) {w : T1x8x128.Idx → F .f32}
    (hw : w = shapeCast T1x8x128 (W n) casts_plane') (x : T1x8x128.Idx) :
    planes W V (n + 1) ((Rect.unit (s := T4x8x128) off T1x8x128.size inb).emb x) = w x := by
  obtain ⟨h0, h1, h2⟩ := plane_idx (inb := inb) hoff x
  subst hw
  show planes W V (n + 1) ((Rect.unit (s := T4x8x128) off T1x8x128.size inb).idx x) = _
  unfold planes
  rw [if_pos (by omega), h0]
  refine congrArg (W n) ?_
  have hx : (x 0).val = 0 := Nat.lt_one_iff.mp (x 0).isLt
  refine (Shape.reshapeEquiv_eq_of_rowMajor _ ?_).symm
  rw [Shape.rowMajor_val_three, Shape.rowMajor_val_two]
  show (((Rect.unit (s := T4x8x128) off T1x8x128.size inb).idx x : T4x8x128.Idx) 1).val * 128 +
    (((Rect.unit (s := T4x8x128) off T1x8x128.size inb).idx x : T4x8x128.Idx) 2).val = ((x 0).val * 8 + (x 1).val) * 128 + (x 2).val
  rw [h1, h2, hx]; omega

/-- … and elsewhere. -/
theorem plane_out {W : ℕ → FVec F T8x128 .f32} {V : FVec F T4x8x128 .f32} {n : ℕ} {off : Fin 3 → ℕ}
    {inb : ∀ a, off a + T1x8x128.size a ≤ T4x8x128.size a} (hoff : off = ![n, 0, 0]) (y : T4x8x128.Idx)
    (hy : y ∉ (Rect.unit (s := T4x8x128) off T1x8x128.size inb).set) : planes W V (n + 1) y = planes W V n y := by
  have h : (y 0).val ≠ n := by
    intro h
    apply hy
    rw [Rect.mem_set_unit]
    subst hoff
    have h1 : (y 1).val < 8 := (y 1).isLt
    have h2 : (y 2).val < 128 := (y 2).isLt
    intro a
    match a with
    | ⟨0, _⟩ => show n ≤ (y 0).val ∧ (y 0).val < n + 1; omega
    | ⟨1, _⟩ => show 0 ≤ (y 1).val ∧ (y 1).val < 0 + 8; omega
    | ⟨2, _⟩ => show 0 ≤ (y 2).val ∧ (y 2).val < 0 + 128; omega
  unfold planes
  by_cases h' : (y 0).val < n
  · rw [if_pos h', if_pos (by omega)]
  · rw [if_neg h', if_neg (by omega)]

/-- A plane not yet replaced, as loaded. -/
theorem plane_planes {W : ℕ → FVec F T8x128 .f32} {V : FVec F T4x8x128 .f32} {n : ℕ} (hn : n < 4) :
    plane (planes W V n) n = plane V n := by
  refine congrArg (fun t => shapeCast T8x128 t casts_plane) ?_
  funext x
  show planes W V n _ = V _
  obtain ⟨h0, -, -⟩ := plane_idx (off := ![n % 4, 0, 0]) (inb := inb_lane n) (n := n) (by rw [Nat.mod_eq_of_lt hn]) x
  unfold planes
  rw [if_neg (by omega)]

section State

variable {ρ : ℕ} {H0 : FVec F T4x64x8x128 .f32} {P : Par F} {s n : ℕ}
variable {off : Fin 4 → ℕ} {inb : ∀ a, off a + T1x1x8x128.size a ≤ T4x64x8x128.size a}

/-- The tile of a bin not yet reached in slab `s + 1`, as loaded. -/
theorem read_tile (hoff : off = ![ρ, n, 0, 0]) (y : T8x128.Idx) :
    shapeCast T8x128 (View.ld (Val := Elt F) (e' := .f32) (Hst ρ H0 P (s + 1) n)
      (Rect.unit (s := T4x64x8x128) off T1x1x8x128.size inb)) casts_tile' y = acc P s n y := by
  rw [cast_tile']
  obtain ⟨h0, h1, h2⟩ := tile_idx (inb := inb) hoff (ix4 (0 : Fin 1) (0 : Fin 1) (y 0) (y 1))
  show Hst ρ H0 P (s + 1) n ((Rect.unit (s := T4x64x8x128) off T1x1x8x128.size inb).idx _) = _
  unfold Hst
  rw [if_pos h0, if_neg (by omega)]
  show acc P s _ (lane _) = _
  rw [h2, h1]
  congr 1
  exact (eq_ix2 y).symm

/-- Storing the right tile at bin `n` moves the state on by one bin; on the tile … -/
theorem store_in (hoff : off = ![ρ, n, 0, 0]) {w : T1x1x8x128.Idx → F .f32}
    (hw : w = shapeCast T1x1x8x128 (acc P s n) casts_tile) (x : T1x1x8x128.Idx) :
    Hst ρ H0 P s (n + 1) ((Rect.unit (s := T4x64x8x128) off T1x1x8x128.size inb).emb x) = w x := by
  obtain ⟨h0, h1, h2⟩ := tile_idx (inb := inb) hoff x
  subst hw
  rw [cast_tile]
  show Hst ρ H0 P s (n + 1) ((Rect.unit (s := T4x64x8x128) off T1x1x8x128.size inb).idx x) = _
  unfold Hst
  rw [if_pos h0, if_pos (by omega)]
  show acc P s _ (lane _) = _
  rw [h2, h1]
  rfl

/-- … and elsewhere. -/
theorem store_out (hoff : off = ![ρ, n, 0, 0]) (y : T4x64x8x128.Idx)
    (hy : y ∉ (Rect.unit (s := T4x64x8x128) off T1x1x8x128.size inb).set) :
    Hst ρ H0 P s (n + 1) y = Hst ρ H0 P s n y := by
  unfold Hst
  by_cases h0 : (y 0).val = ρ
  · rw [if_pos h0, if_pos h0]
    have h1 : (y 1).val ≠ n := by
      intro h1
      apply hy
      rw [Rect.mem_set_unit]
      subst hoff
      have h2 : (y 2).val < 8 := (y 2).isLt
      have h3 : (y 3).val < 128 := (y 3).isLt
      intro a
      match a with
      | ⟨0, _⟩ => show ρ ≤ (y 0).val ∧ (y 0).val < ρ + 1; omega
      | ⟨1, _⟩ => show n ≤ (y 1).val ∧ (y 1).val < n + 1; omega
      | ⟨2, _⟩ => show 0 ≤ (y 2).val ∧ (y 2).val < 0 + 8; omega
      | ⟨3, _⟩ => show 0 ≤ (y 3).val ∧ (y 3).val < 0 + 128; omega
    by_cases h : (y 1).val < n
    · rw [if_pos h, if_pos (by omega)]
    · rw [if_neg h, if_neg (by omega)]
  · rw [if_neg h0, if_neg h0]

end State

section Bins

variable {nD : Nat} {τ : Topo} {sig : RefSig} {Ix : Type} [DecidableEq Ix]
variable {Name : Type} [DecidableEq Name] {U : Type} [URA U]
variable {Lvl : Type} {Λ : Labels} [Preorder Lvl] {defs : Idealize.ShloMosaic.Defs nD τ sig (Elt F) Λ}
variable {𝒱 : Variants} {c : Thread nD τ} {bd : Option 𝒱.V} {E : Set Name}

local notation "𝕄" => MT nD τ sig Ix (Elt F) Name U Lvl

variable {c2 c3 c4 c5 c6 c7 : CoreSpace} {s2 s3 s4 s5 s7 : Shape} {α : Type}
variable {Q : α → sProp (MT nD τ sig Ix (Elt F) Name U Lvl)}
variable {a2 : Memref sig c.2.kind c2 s2 .f32} {a3 : Memref sig c.2.kind c3 s3 .f32} {a4 : Memref sig c.2.kind c4 s4 .f32}
variable {a5 : Memref sig c.2.kind c5 s5 .f32} {a6 : Memref sig c.2.kind c6 T4x64x8x128 .f32} {a7 : Memref sig c.2.kind c7 s7 .f32}
variable {X1 : s2.Idx → Elt F .f32} {X2 : s3.Idx → Elt F .f32} {O : s4.Idx → Elt F .f32}
variable {M : s5.Idx → Elt F .f32} {V : s7.Idx → Elt F .f32}
variable {ρ : ℕ} {H0 : FVec F T4x64x8x128 .f32} {P : Par F} {s n : ℕ}
variable {off : Fin 4 → ℕ} {inb : ∀ a, off a + T1x1x8x128.size a ≤ T4x64x8x128.size a}
variable {w : T1x1x8x128.Idx → Elt F .f32}
variable {hx : (a6.access (Rect.unit (s := T4x64x8x128) off T1x1x8x128.size inb)).Stores Finset.univ}
variable {hm : (Finset.univ : Finset (Rect.unit (s := T4x64x8x128) off T1x1x8x128.size inb).shape.Idx) = Finset.univ ∨ ∀ a, (Rect.unit (s := T4x64x8x128) off T1x1x8x128.size inb).stride a = 1}
variable {k : PUnit → Prog (TpuEff nD τ sig (Elt F) Λ c.2) α}

/-- Slab 0, one bin: the tile is stored. -/
theorem bin_first (hoff : off = ![ρ, n, 0, 0]) (hw : w = shapeCast T1x1x8x128 (tile P 0 n) casts_tile)
    (hk : (Own c a2 a3 a4 a5 a6 a7 X1 X2 O M (Hst ρ H0 P 0 (n + 1)) V : sProp 𝕄) ⊢ wp frame (wpE defs 𝒱 c bd) E (k ⟨⟩) Q) :
    (Own c a2 a3 a4 a5 a6 a7 X1 X2 O M (Hst ρ H0 P 0 n) V : sProp 𝕄) ⊢ wp frame (wpE defs 𝒱 c bd) E
      (.op (.store a6 (Rect.unit (s := T4x64x8x128) off T1x1x8x128.size inb) w Finset.univ hx hm) k) Q :=
  st6 (store_in (P := P) (s := 0) hoff hw) (store_out hoff) hk

/-- A later slab, one bin: the tile is added to what was loaded. -/
theorem bin_later (hoff : off = ![ρ, n, 0, 0])
    (hw : w = shapeCast T1x1x8x128 (addf (shapeCast T8x128 (View.ld (Val := Elt F) (e' := .f32) (Hst ρ H0 P (s + 1) n)
      (Rect.unit (s := T4x64x8x128) off T1x1x8x128.size inb)) casts_tile') (tile P (s + 1) n)) casts_tile)
    (hk : (Own c a2 a3 a4 a5 a6 a7 X1 X2 O M (Hst ρ H0 P (s + 1) (n + 1)) V : sProp 𝕄) ⊢ wp frame (wpE defs 𝒱 c bd) E (k ⟨⟩) Q) :
    (Own c a2 a3 a4 a5 a6 a7 X1 X2 O M (Hst ρ H0 P (s + 1) n) V : sProp 𝕄) ⊢ wp frame (wpE defs 𝒱 c bd) E
      (.op (.store a6 (Rect.unit (s := T4x64x8x128) off T1x1x8x128.size inb) w Finset.univ hx hm) k) Q := by
  refine st6 (store_in hoff (hw.trans ?_)) (store_out hoff) hk
  refine congrArg (fun t => shapeCast T1x1x8x128 t casts_tile) ?_
  funext y
  show FloatOps.addf (shapeCast T8x128 _ casts_tile' y) _ = FloatOps.addf _ _
  rw [read_tile hoff]

/-- From the end of a slab to the next. -/
theorem slab_next {p : Prog (TpuEff nD τ sig (Elt F) Λ c.2) α}
    (hk : (Own c a2 a3 a4 a5 a6 a7 X1 X2 O M (Hst ρ H0 P (s + 1) 0) V : sProp 𝕄) ⊢ wp frame (wpE defs 𝒱 c bd) E p Q) :
    (Own c a2 a3 a4 a5 a6 a7 X1 X2 O M (Hst ρ H0 P s 64) V : sProp 𝕄) ⊢ wp frame (wpE defs 𝒱 c bd) E p Q := by
  rw [Hst_next]; exact hk

/-- At the start of a visit. -/
theorem slab_start (ρ : ℕ) (P : Par F) {p : Prog (TpuEff nD τ sig (Elt F) Λ c.2) α}
    (hk : (Own c a2 a3 a4 a5 a6 a7 X1 X2 O M (Hst ρ H0 P 0 0) V : sProp 𝕄) ⊢ wp frame (wpE defs 𝒱 c bd) E p Q) :
    (Own c a2 a3 a4 a5 a6 a7 X1 X2 O M H0 V : sProp 𝕄) ⊢ wp frame (wpE defs 𝒱 c bd) E p Q := by
  rw [Hst_zero] at hk; exact hk

/-- At its end. -/
theorem slab_end {R : sProp (MT nD τ sig Ix (Elt F) Name U Lvl)}
    (hk : (Own c a2 a3 a4 a5 a6 a7 X1 X2 O M (Hst ρ H0 P 32 0) V : sProp 𝕄) ⊢ R) :
    (Own c a2 a3 a4 a5 a6 a7 X1 X2 O M (Hst ρ H0 P 31 64) V : sProp 𝕄) ⊢ R := by
  rw [Hst_next]; exact hk

end Bins

section Sequence

variable {nD : Nat} {τ : Topo} {sig : RefSig} {Ix : Type} [DecidableEq Ix]
variable {Val : EltTy → Type} {Name : Type} [DecidableEq Name] {U : Type} [URA U]
variable {Lvl : Type} {Λ : Labels} [Preorder Lvl] {defs : Idealize.ShloMosaic.Defs nD τ sig Val Λ}
variable {𝒱 : Variants} {c : Thread nD τ} {bd : Option 𝒱.V} {E : Set Name}
variable {α β : Type} {R R' : sProp (MT nD τ sig Ix Val Name U Lvl)}

/-- A program made of two parts: run the first, with the second as what is to follow. -/
theorem enter {p : Prog (TpuEff nD τ sig Val Λ c.2) β} {f : β → Prog (TpuEff nD τ sig Val Λ c.2) α}
    {Q : α → sProp (MT nD τ sig Ix Val Name U Lvl)}
    (h : R ⊢ wp frame (wpE defs 𝒱 c bd) E p fun a => wp frame (wpE defs 𝒱 c bd) E (f a) Q) :
    R ⊢ wp frame (wpE defs 𝒱 c bd) E (p >>= f) Q := by
  rw [wp_bind_eq]; exact h

/-- A part that only returns. -/
theorem leave {v : α} {Q : α → sProp (MT nD τ sig Ix Val Name U Lvl)} (h : R ⊢ Q v) :
    R ⊢ wp frame (wpE defs 𝒱 c bd) E (.ret v) Q := by
  rw [wp_ret]; exact h.trans BI.fupd_intro

/-- A part under a condition that fails, and one under a condition that holds. -/
theorem skip {C : Prop} [Decidable C] {p : C → Prog (TpuEff nD τ sig Val Λ c.2) α} {q : ¬C → Prog (TpuEff nD τ sig Val Λ c.2) α}
    {Q : α → sProp (MT nD τ sig Ix Val Name U Lvl)} (h : ¬C) (hk : R ⊢ wp frame (wpE defs 𝒱 c bd) E (q h) Q) :
    R ⊢ wp frame (wpE defs 𝒱 c bd) E (if h : C then p h else q h) Q := by
  rw [dif_neg h]; exact hk

theorem take {C : Prop} [Decidable C] {p : C → Prog (TpuEff nD τ sig Val Λ c.2) α} {q : ¬C → Prog (TpuEff nD τ sig Val Λ c.2) α}
    {Q : α → sProp (MT nD τ sig Ix Val Name U Lvl)} (h : C) (hk : R ⊢ wp frame (wpE defs 𝒱 c bd) E (p h) Q) :
    R ⊢ wp frame (wpE defs 𝒱 c bd) E (if h : C then p h else q h) Q := by
  rw [dif_pos h]; exact hk

/-- A part run under a condition, with what follows proved once. -/
theorem branch {C : Prop} [Decidable C] {p : C → Prog (TpuEff nD τ sig Val Λ c.2) PUnit}
    {q : ¬C → Prog (TpuEff nD τ sig Val Λ c.2) PUnit}
    {Q : PUnit → sProp (MT nD τ sig Ix Val Name U Lvl)} (hk : R' ⊢ Q ⟨⟩)
    (h1 : ∀ h : C, ∀ Q : PUnit → sProp (MT nD τ sig Ix Val Name U Lvl), (R' ⊢ Q ⟨⟩) →
      R ⊢ wp frame (wpE defs 𝒱 c bd) E (p h) Q)
    (h2 : ∀ h : ¬C, ∀ Q : PUnit → sProp (MT nD τ sig Ix Val Name U Lvl), (R' ⊢ Q ⟨⟩) →
      R ⊢ wp frame (wpE defs 𝒱 c bd) E (q h) Q) :
    R ⊢ wp frame (wpE defs 𝒱 c bd) E (if h : C then p h else q h) Q := by
  by_cases h : C
  · rw [dif_pos h]; exact h1 h Q hk
  · rw [dif_neg h]; exact h2 h Q hk

end Sequence

end Cert.MI
-- ==== Proof.Weight.lean ====
/- The weight of a pixel in a bin, at the extended reals: the kernel's exponent, stepped along a run of 16 bins, is
   the sum of the two squared distances from the bin's centre. -/
module

public import proofs.«01_k».proof.Proof.Model
public import Idealize.ShloMosaic.PureOps.Ideal
public import Idealize.ShloMosaic.Lib.IdealHost

@[expose] public section

noncomputable section

namespace Cert.MI

open Idealize.ShloMosaic Idealize.ShloMosaic.ValueIdx

/-- One over the f32 word of 0.1. -/
def rr : ℝ := 134217728 / 13421773

/-- One step between bins in the units of the exponent to base 2, halved and squared this is the step of it. -/
def dl : ℝ := rr * (Real.sqrt (Real.log 2))⁻¹

theorem log2_pos : 0 < Real.log 2 := Real.log_pos (by norm_num)

theorem dl_sq : dl * dl = rr * rr * (Real.log 2)⁻¹ := by
  unfold dl
  have h : Real.sqrt (Real.log 2) * Real.sqrt (Real.log 2) = Real.log 2 := Real.mul_self_sqrt log2_pos.le
  rw [← h, mul_inv, h]; ring

theorem half_word : Ideal.ofBits .f32 0x3F000000#32 = ((1 / 2 : ℝ) : EReal) := by
  simp [Ideal.ofBits, Ideal.ieee, -EReal.coe_mul]; norm_num

theorem two_word : Ideal.ofBits .f32 0x40000000#32 = ((2 : ℝ) : EReal) := by
  simp [Ideal.ofBits, Ideal.ieee]; norm_cast; norm_num

/-- An image's normalised pixels `f`, as the kernel reaches them: half the pixel over the range is half of
    `f + m`, `m` the lower bound over the range. -/
structure Norm (X : FVec Ideal T1x512x512 .f32) (mn inv : EReal) (f : T1x512x512.Idx → ℝ) (m : ℝ) : Prop where
  low : mn * inv = (m : EReal)
  pix : ∀ x, X x * (((1 / 2 : ℝ) : EReal) * inv) = (((f x + m) / 2 : ℝ) : EReal)

/-- The constants of the exponent. -/
structure Consts (P : Par Ideal) : Prop where
  kq : P.kq = ((-(1024 * (dl * dl)) : ℝ) : EReal)
  sqk : P.sqk = ((64 * dl : ℝ) : EReal)
  dlt2 : P.dlt2 = ((2 * dl : ℝ) : EReal)
  dltsq : P.dltsq = ((dl * dl : ℝ) : EReal)
  dltsq2 : P.dltsq2 = ((2 * (dl * dl) : ℝ) : EReal)
  cb : ∀ g < 4, P.cb g = (((16 * g + 1 / 2) * dl : ℝ) : EReal)

/-- The index of a pixel of the eight rows from row `8 k`. -/
def pixel (k : ℕ) (y : T8x512.Idx) : T1x512x512.Idx :=
  ix3 0 (⟨(8 * k + (y 0).val) % 512, Nat.mod_lt _ (by norm_num)⟩ : Fin 512) (y 1)

/-- Eight rows of a block, read at a lane. -/
theorem rows_apply {F : FTy → Type} [FloatOps F] (X : FVec F T1x512x512 .f32) (k : ℕ) (y : T8x512.Idx) :
    rows X k y = X (pixel k y) := by
  obtain ⟨a, b, rfl⟩ : ∃ a b, y = ix2 a b := ⟨y 0, y 1, eq_ix2 y⟩
  refine (shapeCast_1ab_ab_apply _ _ a b).trans ?_
  refine congrArg X ?_
  funext i
  match i with
  | ⟨0, _⟩ => rfl
  | ⟨1, _⟩ => apply Fin.ext; show 8 * k % 512 + 1 * a.val = (8 * k + a.val) % 512; have := a.isLt; omega
  | ⟨2, _⟩ => apply Fin.ext; show 0 + 1 * b.val = b.val; omega

/-- The weight: a Gaussian of each normalised pixel about the bin's centre, the two multiplied. -/
def weight (u v : ℝ) (n : ℕ) : ℝ :=
  Real.exp (-(((u - (n + 1 / 2) / 64) ^ 2 + (v - (n + 1 / 2) / 64) ^ 2) * (2048 * (rr * rr))))

variable {P : Par Ideal} {f1 f2 : T1x512x512.Idx → ℝ} {m1 m2 : ℝ}

section
variable (hP : Consts P) (h1 : Norm P.X1 P.mn1 P.inv1 f1 m1) (h2 : Norm P.X2 P.mn2 P.inv2 f2 m2)
include hP h1 h2

/-- The scaled mean of the two pixels. -/
theorem zs_apply (k : ℕ) (y : T8x512.Idx) :
    zs P k y = (((f1 (pixel k y) + f2 (pixel k y)) / 2 * (64 * dl) : ℝ) : EReal) := by
  show ((rows P.X1 k y * (Ideal.ofBits .f32 0x3F000000#32 * P.inv1) + rows P.X2 k y * (Ideal.ofBits .f32 0x3F000000#32 * P.inv2))
    - Ideal.ofBits .f32 0x3F000000#32 * (P.mn1 * P.inv1 + P.mn2 * P.inv2)) * P.sqk = _
  rw [half_word, rows_apply, rows_apply, h1.pix, h2.pix, h1.low, h2.low, hP.sqk]
  norm_cast
  ring

/-- The part of the exponent that no bin changes. -/
theorem hh_apply (k : ℕ) (y : T8x512.Idx) :
    hh P k y = (((f1 (pixel k y) - f2 (pixel k y)) ^ 2 * (-(1024 * (dl * dl))) : ℝ) : EReal) := by
  have hd : diff P k y = ((f1 (pixel k y) - f2 (pixel k y) : ℝ) : EReal) := by
    show ((rows P.X1 k y * (Ideal.ofBits .f32 0x3F000000#32 * P.inv1) - rows P.X2 k y * (Ideal.ofBits .f32 0x3F000000#32 * P.inv2))
      * Ideal.ofBits .f32 0x40000000#32) + (P.mn2 * P.inv2 - P.mn1 * P.inv1) = _
    rw [half_word, two_word, rows_apply, rows_apply, h1.pix, h2.pix, h1.low, h2.low]
    norm_cast
    ring
  show (diff P k y * diff P k y) * P.kq = _
  rw [hd, hP.kq]
  norm_cast
  ring

/-- The distance from the centre that a run of 16 bins starts at. -/
theorem zc_apply (k g : ℕ) (hg : g < 4) (y : T8x512.Idx) :
    zc P k g y = (((f1 (pixel k y) + f2 (pixel k y)) / 2 * (64 * dl) - (16 * g + 1 / 2) * dl : ℝ) : EReal) := by
  show zs P k y - P.cb g = _
  rw [zs_apply hP h1 h2, hP.cb g hg]
  norm_cast

/-- The step from one bin to the next. -/
theorem stp_apply (k g : ℕ) (hg : g < 4) (y : T8x512.Idx) (j : ℕ) :
    stp P k g j y = ((((f1 (pixel k y) + f2 (pixel k y)) / 2 * (64 * dl) - (16 * g + 1 / 2) * dl) * (2 * dl)
      - (2 * j + 1) * (dl * dl) : ℝ) : EReal) := by
  induction j with
  | zero =>
    show zc P k g y * P.dlt2 - P.dltsq = _
    rw [zc_apply hP h1 h2 k g hg, hP.dlt2, hP.dltsq]
    norm_cast
    push_cast; ring
  | succ j ih =>
    show stp P k g j y - P.dltsq2 = _
    rw [ih, hP.dltsq2]
    norm_cast
    push_cast; ring

/-- The exponent of a bin, read at a lane. -/
theorem expo_apply (k g : ℕ) (hg : g < 4) (y : T8x512.Idx) (j : ℕ) :
    expo P k g j y = (((f1 (pixel k y) - f2 (pixel k y)) ^ 2 * (-(1024 * (dl * dl)))
      - ((f1 (pixel k y) + f2 (pixel k y)) / 2 * (64 * dl) - (16 * g + j + 1 / 2) * dl) ^ 2 : ℝ) : EReal) := by
  induction j with
  | zero =>
    show hh P k y - zc P k g y * zc P k g y = _
    rw [zc_apply hP h1 h2 k g hg, hh_apply hP h1 h2]
    norm_cast
    push_cast; ring
  | succ j ih =>
    show expo P k g j y + stp P k g j y = _
    rw [ih, stp_apply hP h1 h2 k g hg]
    norm_cast
    push_cast; ring

/-- What a pixel adds to a bin is its weight there. -/
theorem exp2_expo (k n : ℕ) (hn : n < 64) (y : T8x512.Idx) :
    exp2 (expo P k (n / 16) (n % 16)) y = ((weight (f1 (pixel k y)) (f2 (pixel k y)) n : ℝ) : EReal) := by
  show Ideal.exp2 (expo P k (n / 16) (n % 16) y) = _
  rw [expo_apply hP h1 h2 k (n / 16) (by omega)]
  have hn' : (16 * ((n / 16 : ℕ) : ℝ) + ((n % 16 : ℕ) : ℝ)) = n := by exact_mod_cast Nat.div_add_mod n 16
  rw [hn']
  show ((Real.rpow 2 _ : ℝ) : EReal) = _
  congr 1
  show (2 : ℝ) ^ (_ : ℝ) = _
  rw [Real.rpow_def_of_pos (by norm_num)]
  unfold weight
  congr 1
  have hl := dl_sq
  have h0 : Real.log 2 ≠ 0 := log2_pos.ne'
  have : rr * rr = dl * dl * Real.log 2 := by rw [hl]; field_simp
  rw [this]; ring

end

end Cert.MI
-- ==== Proof.Total.lean ====
/- The histogram of a pair: the tiles of a bin, summed, are the weights of all 512×512 pixels, summed. -/
module

public import proofs.«01_k».proof.Proof.Weight
public import Idealize.ShloMosaic.Lib.Pointwise

@[expose] public section

noncomputable section

namespace Cert.MI

open Idealize.ShloMosaic hiding ix1 ix2 ix3 ix4 ix5 ix6 eq_ix2
open Idealize.ShloMosaic.ValueIdx

/-- A quantity summed over the pixels of an image. -/
def total (G : T1x512x512.Idx → EReal) : EReal := ∑ h : Fin 512, ∑ w : Fin 512, G (ix3 0 h w)

/-- The four 128-lane pieces added. -/
theorem sum4_apply (x : FVec Ideal T8x512 .f32) (a : Fin 8) (b : Fin 128) :
    sum4 x (ix2 a b) = ∑ q : Fin 4, x (ix2 a ⟨b.val + 128 * q.val, by omega⟩) := by
  have hs : ∀ (o : ℕ) (h : T8x512.Slices ![0, o] T8x128) (ho : o + b.val < 512),
      extractStridedSlice T8x128 ![0, o] x h (ix2 a b) = x (ix2 a ⟨b.val + o, by omega⟩) := by
    intro o h ho
    refine congrArg x ?_
    funext i
    match i with
    | ⟨0, _⟩ => apply Fin.ext; show 0 + a.val = a.val; omega
    | ⟨1, _⟩ => apply Fin.ext; show o + b.val = b.val + o; omega
  rw [Fin.sum_univ_four]
  show (extractStridedSlice T8x128 ![0, 0] x slices_0 (ix2 a b) + extractStridedSlice T8x128 ![0, 128] x slices_128 (ix2 a b))
    + (extractStridedSlice T8x128 ![0, 256] x slices_256 (ix2 a b) + extractStridedSlice T8x128 ![0, 384] x slices_384 (ix2 a b)) = _
  rw [hs 0 _ (by omega), hs 128 _ (by omega), hs 256 _ (by omega), hs 384 _ (by omega), ← add_assoc]
  rfl

/-- A pixel by tile row, row in the tile, 128-lane piece and lane. -/
theorem total_split (G : T1x512x512.Idx → EReal) :
    total G = ∑ a : Fin 8, ∑ b : Fin 128, ∑ k : Fin 64, ∑ q : Fin 4,
      G (ix3 0 (⟨a.val + 8 * k.val, by omega⟩ : Fin 512) (⟨b.val + 128 * q.val, by omega⟩ : Fin 512)) := by
  have h1 : ∀ g : Fin 512 → EReal, ∑ h, g h = ∑ k : Fin 64, ∑ a : Fin 8, g ⟨a.val + 8 * k.val, by omega⟩ := by
    intro g
    rw [← Fintype.sum_prod_type', ← Equiv.sum_comp (finProdFinEquiv (m := 64) (n := 8)) g]
    rfl
  have h2 : ∀ g : Fin 512 → EReal, ∑ w, g w = ∑ q : Fin 4, ∑ b : Fin 128, g ⟨b.val + 128 * q.val, by omega⟩ := by
    intro g
    rw [← Fintype.sum_prod_type', ← Equiv.sum_comp (finProdFinEquiv (m := 4) (n := 128)) g]
    rfl
  unfold total
  rw [h1, Finset.sum_comm]
  refine Finset.sum_congr rfl fun a _ => ?_
  refine Eq.trans ?_ Finset.sum_comm
  refine Finset.sum_congr rfl fun k _ => ?_
  rw [h2, Finset.sum_comm]

variable {P : Par Ideal} {n : ℕ} {G : T1x512x512.Idx → EReal}

/-- After `s + 1` slabs a lane of a bin's tile holds the weights of its pixels in the first `2 s + 2` tile rows. -/
theorem acc_apply (hG : ∀ k y, exp2 (expo P k (n / 16) (n % 16)) y = G (pixel k y)) (s : ℕ) (a : Fin 8) (b : Fin 128) :
    acc P s n (ix2 a b) = ∑ k ∈ Finset.range (2 * (s + 1)), ∑ q : Fin 4,
      G (pixel k (ix2 a ⟨b.val + 128 * q.val, by omega⟩)) := by
  have ht : ∀ s, tile P s n (ix2 a b) = (∑ q : Fin 4, G (pixel (2 * s) (ix2 a ⟨b.val + 128 * q.val, by omega⟩)))
      + ∑ q : Fin 4, G (pixel (2 * s + 1) (ix2 a ⟨b.val + 128 * q.val, by omega⟩)) := by
    intro s
    show sum4 _ (ix2 a b) + sum4 _ (ix2 a b) = _
    rw [sum4_apply, sum4_apply]
    simp only [hG]
  induction s with
  | zero =>
    show tile P 0 n (ix2 a b) = _
    rw [ht, Finset.sum_range_succ, Finset.sum_range_succ, Finset.sum_range_zero, zero_add]
  | succ s ih =>
    show acc P s n (ix2 a b) + tile P (s + 1) n (ix2 a b) = _
    rw [ih, ht, show 2 * (s + 1 + 1) = 2 * (s + 1) + 1 + 1 by ring, Finset.sum_range_succ, Finset.sum_range_succ, add_assoc]

/-- The whole tile of a bin, summed, after the last slab. -/
theorem acc_total (hG : ∀ k y, exp2 (expo P k (n / 16) (n % 16)) y = G (pixel k y)) :
    ∑ b : Fin 128, ∑ a : Fin 8, acc P 31 n (ix2 a b) = total G := by
  rw [total_split, Finset.sum_comm]
  refine Finset.sum_congr rfl fun a _ => Finset.sum_congr rfl fun b _ => ?_
  rw [acc_apply hG, Finset.sum_range]
  refine Finset.sum_congr rfl fun k _ => Finset.sum_congr rfl fun q _ => ?_
  refine congrArg G ?_
  unfold pixel
  congr 1
  apply Fin.ext
  show (8 * k.val + a.val) % 512 = a.val + 8 * k.val
  have := k.isLt
  omega

/-- The histogram, read at a pair and a bin. -/
theorem hist_apply (H : FVec Ideal T4x64x8x128 .f32) (i : Fin 4) (j : Fin 64) :
    hist H (ix2 i j) = (∑ b : Fin 128, ∑ a : Fin 8, H (ix4 i j a b)) * Ideal.ofBits .f32 0x35800000#32 := by
  have hld : View.ld (Val := Elt Ideal) (e' := .f32) H
      (Rect.unit (s := T4x64x8x128) ![0, 0, 0, 0] T4x64x8x128.size inb_all) = H := by
    funext x
    refine congrArg H ?_
    funext a
    apply Fin.ext
    match a with
    | ⟨0, _⟩ => show 0 + 1 * (x 0).val = (x 0).val; omega
    | ⟨1, _⟩ => show 0 + 1 * (x 1).val = (x 1).val; omega
    | ⟨2, _⟩ => show 0 + 1 * (x 2).val = (x 2).val; omega
    | ⟨3, _⟩ => show 0 + 1 * (x 3).val = (x 3).val; omega
  unfold hist
  rw [hld]
  show (multiReduction .add [2] T4x64 _ _ _ _ _ (ix2 i j)) * _ = _
  simp only [pointwise]
  rfl

end Cert.MI
-- ==== Proof.Extremes.lean ====
/- The bounds: the least and the greatest of each image over all pairs, by the inequalities they satisfy. -/
module

public import proofs.«01_k».proof.Proof.Total

@[expose] public section

noncomputable section

namespace Cert.MI

open Idealize.ShloMosaic hiding ix1 ix2 ix3 ix4 ix5 ix6 eq_ix2
open Idealize.ShloMosaic.ValueIdx

/-- A band of eight rows, read at a lane. -/
theorem band_apply {F : FTy → Type} [FloatOps F] (X : FVec F T1x512x512 .f32) (k : ℕ) (y : T8x512.Idx) :
    band X k y = X (pixel k y) := by
  obtain ⟨a, b, rfl⟩ : ∃ a b, y = ix2 a b := ⟨y 0, y 1, eq_ix2 y⟩
  have h : ∀ (u : Fin 512) (v : Fin 512), shapeCast T512x512 (View.ld (Val := Elt F) (e' := .f32) X
      (Rect.unit (s := T1x512x512) ![0, 0, 0] T1x512x512.size inb_whole)) casts_whole (ix2 u v) = X (ix3 0 u v) := by
    intro u v
    refine (shapeCast_1ab_ab_apply _ _ u v).trans (congrArg X ?_)
    funext i
    match i with
    | ⟨0, _⟩ => rfl
    | ⟨1, _⟩ => apply Fin.ext; show 0 + 1 * u.val = u.val; omega
    | ⟨2, _⟩ => apply Fin.ext; show 0 + 1 * v.val = v.val; omega
  have ha := a.isLt
  have hb := b.isLt
  refine Eq.trans ?_ (h ⟨(8 * k + a.val) % 512, Nat.mod_lt _ (by norm_num)⟩ b)
  unfold band
  generalize shapeCast T512x512 (View.ld (Val := Elt F) (e' := .f32) X
      (Rect.unit (s := T1x512x512) ![0, 0, 0] T1x512x512.size inb_whole)) casts_whole = f
  show f _ = f _
  refine congrArg f ?_
  funext i
  match i with
  | ⟨0, _⟩ => apply Fin.ext; show 8 * k % 512 + a.val = (8 * k + a.val) % 512; omega
  | ⟨1, _⟩ => apply Fin.ext; show 0 + b.val = b.val; omega

section Lanes
variable (X : FVec Ideal T1x512x512 .f32) (z : EReal)

/-- A number is at most the fold exactly if it is at most every band. -/
theorem le_lower (K : ℕ) (y : T8x512.Idx) : z ≤ lower X K y ↔ ∀ k ≤ K, z ≤ X (pixel k y) := by
  induction K with
  | zero =>
    show z ≤ band X 0 y ↔ _
    rw [band_apply]
    exact ⟨fun h k hk => by rw [Nat.le_zero.mp hk]; exact h, fun h => h 0 le_rfl⟩
  | succ K ih =>
    show z ≤ min (lower X K y) (band X (K + 1) y) ↔ _
    rw [le_min_iff, ih, band_apply]
    exact ⟨fun h k hk => (Nat.le_succ_iff.mp hk).elim (h.1 k) (fun e => by rw [e]; exact h.2),
      fun h => ⟨fun k hk => h k (by omega), h _ le_rfl⟩⟩

/-- A number is at least the fold exactly if it is at least every band. -/
theorem upper_le (K : ℕ) (y : T8x512.Idx) : upper X K y ≤ z ↔ ∀ k ≤ K, X (pixel k y) ≤ z := by
  induction K with
  | zero =>
    show band X 0 y ≤ z ↔ _
    rw [band_apply]
    exact ⟨fun h k hk => by rw [Nat.le_zero.mp hk]; exact h, fun h => h 0 le_rfl⟩
  | succ K ih =>
    show max (upper X K y) (band X (K + 1) y) ≤ z ↔ _
    rw [max_le_iff, ih, band_apply]
    exact ⟨fun h k hk => (Nat.le_succ_iff.mp hk).elim (h.1 k) (fun e => by rw [e]; exact h.2),
      fun h => ⟨fun k hk => h k (by omega), h _ le_rfl⟩⟩

/-- A 128-lane piece, by index. -/
theorem piece_apply (x : FVec Ideal T8x512 .f32) (a : Fin 8) (b : Fin 128) (o : ℕ) (h : T8x512.Slices ![0, o] T8x128) (ho : o + b.val < 512) :
    extractStridedSlice T8x128 ![0, o] x h (ix2 a b) = x (ix2 a ⟨o + b.val, ho⟩) := by
  refine congrArg x ?_
  funext i
  match i with
  | ⟨0, _⟩ => apply Fin.ext; show 0 + a.val = a.val; omega
  | ⟨1, _⟩ => rfl

/-- The same for the fold of the four column groups. -/
theorem le_min4 (x : FVec Ideal T8x512 .f32) (a : Fin 8) (b : Fin 128) :
    z ≤ min4 x (ix2 a b) ↔ ∀ v : Fin 512, v.val % 128 = b.val → z ≤ x (ix2 a v) := by
  show z ≤ min (min (extractStridedSlice T8x128 ![0, 0] x slices_0 (ix2 a b)) (extractStridedSlice T8x128 ![0, 128] x slices_128 (ix2 a b)))
    (min (extractStridedSlice T8x128 ![0, 256] x slices_256 (ix2 a b)) (extractStridedSlice T8x128 ![0, 384] x slices_384 (ix2 a b))) ↔ _
  rw [piece_apply x a b 0 _ (by omega), piece_apply x a b 128 _ (by omega), piece_apply x a b 256 _ (by omega),
    piece_apply x a b 384 _ (by omega), le_min_iff, le_min_iff, le_min_iff]
  constructor
  · rintro ⟨⟨h0, h1⟩, h2, h3⟩ v hv
    have hb := v.isLt
    obtain h | h | h | h : v.val = 0 + b.val ∨ v.val = 128 + b.val ∨ v.val = 256 + b.val ∨ v.val = 384 + b.val := by omega
    · rw [show v = ⟨0 + b.val, by omega⟩ from Fin.ext h]; exact h0
    · rw [show v = ⟨128 + b.val, by omega⟩ from Fin.ext h]; exact h1
    · rw [show v = ⟨256 + b.val, by omega⟩ from Fin.ext h]; exact h2
    · rw [show v = ⟨384 + b.val, by omega⟩ from Fin.ext h]; exact h3
  · intro h
    exact ⟨⟨h _ (by show (0 + b.val) % 128 = _; omega), h _ (by show (128 + b.val) % 128 = _; omega)⟩,
      h _ (by show (256 + b.val) % 128 = _; omega), h _ (by show (384 + b.val) % 128 = _; omega)⟩

/-- The same for the fold of the four column groups, from above. -/
theorem max4_le (x : FVec Ideal T8x512 .f32) (a : Fin 8) (b : Fin 128) :
    max4 x (ix2 a b) ≤ z ↔ ∀ v : Fin 512, v.val % 128 = b.val → x (ix2 a v) ≤ z := by
  show max (max (extractStridedSlice T8x128 ![0, 0] x slices_0 (ix2 a b)) (extractStridedSlice T8x128 ![0, 128] x slices_128 (ix2 a b)))
    (max (extractStridedSlice T8x128 ![0, 256] x slices_256 (ix2 a b)) (extractStridedSlice T8x128 ![0, 384] x slices_384 (ix2 a b))) ≤ z ↔ _
  rw [piece_apply x a b 0 _ (by omega), piece_apply x a b 128 _ (by omega), piece_apply x a b 256 _ (by omega),
    piece_apply x a b 384 _ (by omega), max_le_iff, max_le_iff, max_le_iff]
  constructor
  · rintro ⟨⟨h0, h1⟩, h2, h3⟩ v hv
    have hb := v.isLt
    obtain h | h | h | h : v.val = 0 + b.val ∨ v.val = 128 + b.val ∨ v.val = 256 + b.val ∨ v.val = 384 + b.val := by omega
    · rw [show v = ⟨0 + b.val, by omega⟩ from Fin.ext h]; exact h0
    · rw [show v = ⟨128 + b.val, by omega⟩ from Fin.ext h]; exact h1
    · rw [show v = ⟨256 + b.val, by omega⟩ from Fin.ext h]; exact h2
    · rw [show v = ⟨384 + b.val, by omega⟩ from Fin.ext h]; exact h3
  · intro h
    exact ⟨⟨h _ (by show (0 + b.val) % 128 = _; omega), h _ (by show (128 + b.val) % 128 = _; omega)⟩,
      h _ (by show (256 + b.val) % 128 = _; omega), h _ (by show (384 + b.val) % 128 = _; omega)⟩

/-- Every pixel lies in one lane of one tile row. -/
theorem pixels_iff (p : T1x512x512.Idx → Prop) :
    (∀ x, p x) ↔ ∀ (a : Fin 8) (b : Fin 128) (v : Fin 512), v.val % 128 = b.val → ∀ k ≤ 63, p (pixel k (ix2 a v)) := by
  refine ⟨fun h a b v _ k _ => h _, fun h x => ?_⟩
  have h1 : (x 1).val < 512 := (x 1).isLt
  have h2 : (x 2).val < 512 := (x 2).isLt
  have h0 : (x 0).val < 1 := (x 0).isLt
  have := h ⟨(x 1).val % 8, by omega⟩ ⟨(x 2).val % 128, by omega⟩ (x 2) rfl ((x 1).val / 8) (by omega)
  have hx : pixel ((x 1).val / 8) (ix2 (⟨(x 1).val % 8, by omega⟩ : Fin 8) (x 2)) = x := by
    funext i
    match i with
    | ⟨0, _⟩ => apply Fin.ext; show 0 = (x 0).val; omega
    | ⟨1, _⟩ => apply Fin.ext; show (8 * ((x 1).val / 8) + (x 1).val % 8) % 512 = (x 1).val; omega
    | ⟨2, _⟩ => rfl
  rw [hx] at this
  exact this

theorem le_lanes : (∀ a b, z ≤ min4 (lower X 63) (ix2 a b)) ↔ ∀ x, z ≤ X x := by
  rw [pixels_iff]
  simp only [le_min4, le_lower]

theorem lanes_le : (∀ a b, max4 (upper X 63) (ix2 a b) ≤ z) ↔ ∀ x, X x ≤ z := by
  rw [pixels_iff]
  simp only [max4_le, upper_le]

theorem inf_word : Ideal.ofBits .f32 0x7F800000#32 = ⊤ := by simp [Ideal.ofBits, Ideal.ieee]
theorem neg_inf_word : Ideal.ofBits .f32 0xFF800000#32 = ⊥ := by simp [Ideal.ofBits, Ideal.ieee]

/-- A number is at most the least lane of a plane exactly if it is at most every lane. -/
theorem le_red (x : FVec Ideal T1x8x128 .f32) (j : T1.Idx) :
    z ≤ multiReduction (F := Ideal) .minimumf [1, 2] T1 x 0x7F800000#32 reduces_plane (.inl rfl) rfl j ↔
      ∀ (a : Fin 8) (b : Fin 128), z ≤ x (ix3 0 a b) := by
  refine (iff_of_eq (congrArg (z ≤ ·) (multiReduction_minimumf_eq_fold (F := Ideal) x 0x7F800000#32 reduces_plane (.inl rfl) rfl j))).trans ?_
  rw [reduces_plane.fold_fiber_r3_a12]
  show z ≤ Finset.fold min (Ideal.ofBits .f32 0x7F800000#32) _ _ ↔ _
  rw [Finset.le_fold_min, inf_word]
  simp only [le_top, true_and, Finset.mem_univ, true_implies, Prod.forall]
  refine forall_congr' fun a => forall_congr' fun b => iff_of_eq (congrArg (fun t => z ≤ x t) ?_)
  funext i
  match i with
  | ⟨0, _⟩ => apply Fin.ext; exact Nat.lt_one_iff.mp (Fin.isLt _)
  | ⟨1, _⟩ => rfl
  | ⟨2, _⟩ => rfl

/-- A number is at least the greatest lane of a plane exactly if it is at least every lane. -/
theorem red_le (x : FVec Ideal T1x8x128 .f32) (j : T1.Idx) :
    multiReduction (F := Ideal) .maximumf [1, 2] T1 x 0xFF800000#32 reduces_plane (.inl rfl) rfl j ≤ z ↔
      ∀ (a : Fin 8) (b : Fin 128), x (ix3 0 a b) ≤ z := by
  refine (iff_of_eq (congrArg (· ≤ z) (multiReduction_maximumf_eq_fold (F := Ideal) x 0xFF800000#32 reduces_plane (.inl rfl) rfl j))).trans ?_
  rw [reduces_plane.fold_fiber_r3_a12]
  show Finset.fold max (Ideal.ofBits .f32 0xFF800000#32) _ _ ≤ z ↔ _
  rw [Finset.fold_max_le, neg_inf_word]
  simp only [bot_le, true_and, Finset.mem_univ, true_implies, Prod.forall]
  refine forall_congr' fun a => forall_congr' fun b => iff_of_eq (congrArg (fun t => x t ≤ z) ?_)
  funext i
  match i with
  | ⟨0, _⟩ => apply Fin.ext; exact Nat.lt_one_iff.mp (Fin.isLt _)
  | ⟨1, _⟩ => rfl
  | ⟨2, _⟩ => rfl

theorem le_least (V : FVec Ideal T4x8x128 .f32) (n : ℕ) :
    z ≤ least V n ↔ ∀ (a : Fin 8) (b : Fin 128), z ≤ plane V n (ix2 a b) := by
  refine (le_red z (shapeCast T1x8x128 (plane V n) casts_plane') _).trans ?_
  refine forall_congr' fun a => forall_congr' fun b => ?_
  exact iff_of_eq (congrArg (z ≤ ·) (shapeCast_ab_1ab_apply (plane V n) casts_plane' _ a b))

theorem greatest_le (V : FVec Ideal T4x8x128 .f32) (n : ℕ) :
    greatest V n ≤ z ↔ ∀ (a : Fin 8) (b : Fin 128), plane V n (ix2 a b) ≤ z := by
  refine (red_le z (shapeCast T1x8x128 (plane V n) casts_plane') _).trans ?_
  refine forall_congr' fun a => forall_congr' fun b => ?_
  exact iff_of_eq (congrArg (· ≤ z) (shapeCast_ab_1ab_apply (plane V n) casts_plane' _ a b))

end Lanes

/-- Once all four planes are replaced, each is what replaced it. -/
theorem plane_all {F : FTy → Type} [FloatOps F] (W : ℕ → FVec F T8x128 .f32) (V : FVec F T4x8x128 .f32) (n : ℕ) (hn : n < 4) :
    plane (planes W V 4) n = W n := by
  funext y
  obtain ⟨a, b, rfl⟩ : ∃ a b, y = ix2 a b := ⟨y 0, y 1, eq_ix2 y⟩
  refine (shapeCast_1ab_ab_apply _ _ a b).trans ?_
  obtain ⟨h0, h1, h2⟩ := plane_idx (off := ![n % 4, 0, 0]) (inb := inb_lane n) (n := n) (by rw [Nat.mod_eq_of_lt hn])
    (ix3 (0 : Fin 1) a b)
  show planes W V 4 _ = _
  unfold planes
  rw [if_pos (by omega), h0]
  refine congrArg (W n) ?_
  funext i
  match i with
  | ⟨0, _⟩ => apply Fin.ext; exact h1
  | ⟨1, _⟩ => apply Fin.ext; exact h2

/-- The planes after image pair `i` of the first pass, `A` and `B` the blocks of the two images. -/
def seen {F : FTy → Type} [FloatOps F] (A B : ℕ → FVec F T1x512x512 .f32) (V0 : FVec F T4x8x128 .f32) : ℕ → FVec F T4x8x128 .f32
  | 0 => planes (fresh (A 0) (B 0)) V0 4
  | i + 1 => planes (joined (seen A B V0 i) (A (i + 1)) (B (i + 1))) (seen A B V0 i) 4

section Pass
variable (A B : ℕ → FVec Ideal T1x512x512 .f32) (V0 : FVec Ideal T4x8x128 .f32) (z : EReal)

theorem le_seen_0 (i : ℕ) : (∀ a b, z ≤ plane (seen A B V0 i) 0 (ix2 a b)) ↔ ∀ j ≤ i, ∀ x, z ≤ A j x := by
  induction i with
  | zero =>
    unfold seen
    rw [plane_all _ _ 0 (by norm_num)]
    refine (le_lanes (A 0) z).trans ?_
    exact ⟨fun h k hk => by rw [Nat.le_zero.mp hk]; exact h, fun h => h 0 le_rfl⟩
  | succ i ih =>
    unfold seen
    rw [plane_all _ _ 0 (by norm_num)]
    show (∀ a b, z ≤ min (plane (seen A B V0 i) 0 (ix2 a b)) (min4 (lower (A (i + 1)) 63) (ix2 a b))) ↔ _
    simp only [le_min_iff, forall_and]
    rw [ih, le_lanes]
    exact ⟨fun h k hk => (Nat.le_succ_iff.mp hk).elim (h.1 k) (fun e => by rw [e]; exact h.2),
      fun h => ⟨fun k hk => h k (by omega), h _ le_rfl⟩⟩

theorem seen_le_1 (i : ℕ) : (∀ a b, plane (seen A B V0 i) 1 (ix2 a b) ≤ z) ↔ ∀ j ≤ i, ∀ x, A j x ≤ z := by
  induction i with
  | zero =>
    unfold seen
    rw [plane_all _ _ 1 (by norm_num)]
    refine (lanes_le (A 0) z).trans ?_
    exact ⟨fun h k hk => by rw [Nat.le_zero.mp hk]; exact h, fun h => h 0 le_rfl⟩
  | succ i ih =>
    unfold seen
    rw [plane_all _ _ 1 (by norm_num)]
    show (∀ a b, max (plane (seen A B V0 i) 1 (ix2 a b)) (max4 (upper (A (i + 1)) 63) (ix2 a b)) ≤ z) ↔ _
    simp only [max_le_iff, forall_and]
    rw [ih, lanes_le]
    exact ⟨fun h k hk => (Nat.le_succ_iff.mp hk).elim (h.1 k) (fun e => by rw [e]; exact h.2),
      fun h => ⟨fun k hk => h k (by omega), h _ le_rfl⟩⟩

theorem le_seen_2 (i : ℕ) : (∀ a b, z ≤ plane (seen A B V0 i) 2 (ix2 a b)) ↔ ∀ j ≤ i, ∀ x, z ≤ B j x := by
  induction i with
  | zero =>
    unfold seen
    rw [plane_all _ _ 2 (by norm_num)]
    refine (le_lanes (B 0) z).trans ?_
    exact ⟨fun h k hk => by rw [Nat.le_zero.mp hk]; exact h, fun h => h 0 le_rfl⟩
  | succ i ih =>
    unfold seen
    rw [plane_all _ _ 2 (by norm_num)]
    show (∀ a b, z ≤ min (plane (seen A B V0 i) 2 (ix2 a b)) (min4 (lower (B (i + 1)) 63) (ix2 a b))) ↔ _
    simp only [le_min_iff, forall_and]
    rw [ih, le_lanes]
    exact ⟨fun h k hk => (Nat.le_succ_iff.mp hk).elim (h.1 k) (fun e => by rw [e]; exact h.2),
      fun h => ⟨fun k hk => h k (by omega), h _ le_rfl⟩⟩

theorem seen_le_3 (i : ℕ) : (∀ a b, plane (seen A B V0 i) 3 (ix2 a b) ≤ z) ↔ ∀ j ≤ i, ∀ x, B j x ≤ z := by
  induction i with
  | zero =>
    unfold seen
    rw [plane_all _ _ 3 (by norm_num)]
    refine (lanes_le (B 0) z).trans ?_
    exact ⟨fun h k hk => by rw [Nat.le_zero.mp hk]; exact h, fun h => h 0 le_rfl⟩
  | succ i ih =>
    unfold seen
    rw [plane_all _ _ 3 (by norm_num)]
    show (∀ a b, max (plane (seen A B V0 i) 3 (ix2 a b)) (max4 (upper (B (i + 1)) 63) (ix2 a b)) ≤ z) ↔ _
    simp only [max_le_iff, forall_and]
    rw [ih, lanes_le]
    exact ⟨fun h k hk => (Nat.le_succ_iff.mp hk).elim (h.1 k) (fun e => by rw [e]; exact h.2),
      fun h => ⟨fun k hk => h k (by omega), h _ le_rfl⟩⟩

end Pass

/-- The four bounds once all of them have been stored. -/
theorem bound_all {F : FTy → Type} [FloatOps F] (V : FVec F T4x8x128 .f32) (M : FVec F T8 .f32) (n : ℕ) (hn : n < 4) :
    bound (bounds V M 4) n = pick V n := by
  show bounds V M 4 _ = _
  unfold bounds
  have h : (((Rect.unit (s := T8) ![n % 8] T1.size (inb_bound n)).idx (Shape.Idx.first Nat.one_pos) : T8.Idx) 0).val = n := by
    show n % 8 + 1 * 0 = n
    omega
  rw [if_pos (by omega), h]

end Cert.MI
-- ==== Proof.State.lean ====
/- What the kernel's buffers hold between two points of the grid, as functions of the image blocks alone: the
   buffers' contents before the first point do not matter. -/
module

public import proofs.«01_k».proof.Proof.Extremes

@[expose] public section

noncomputable section

namespace Cert.MI

open Idealize.ShloMosaic Idealize.ShloMosaic.TcCoe Idealize.ShloMosaic.ValueIdx

variable {F : FTy → Type} [FloatOps F]

/-- Any contents, where the contents do not matter. -/
def blank {s : Shape} : FVec F s .f32 := fun _ => Scalar.ofBits .f32 0#32

/-- The four planes once all of them have been stored do not depend on what was there. -/
theorem planes_indep (W : ℕ → FVec F T8x128 .f32) (V V' : FVec F T4x8x128 .f32) : planes W V 4 = planes W V' 4 := by
  funext j
  have h : (j 0).val < 4 := (j 0).isLt
  unfold planes
  rw [if_pos h, if_pos h]

/-- The running planes do not depend on what they held before the first visit. -/
theorem seen_indep (A B : ℕ → FVec F T1x512x512 .f32) (V V' : FVec F T4x8x128 .f32) (i : ℕ) : seen A B V i = seen A B V' i := by
  induction i with
  | zero => exact planes_indep _ _ _
  | succ i ih => unfold seen; rw [ih]

/-- After the last slab of an image pair: its own row of tiles holds the sums, the rest is as it was. -/
theorem Hst_end (ρ : ℕ) (H : FVec F T4x64x8x128 .f32) (P : Par F) (j : T4x64x8x128.Idx) :
    Hst ρ H P 32 0 j = if (j 0).val = ρ then acc P 31 (j 1) (lane j) else H j := by
  simp [Hst]

/-- The histogram buffer after the first `k` image pairs of the second pass. -/
def filled (P : ℕ → Par F) (H : FVec F T4x64x8x128 .f32) : ℕ → FVec F T4x64x8x128 .f32
  | 0 => H
  | k + 1 => Hst k (filled P H k) (P k) 32 0

/-- The histogram buffer, read at one bin of one pair. -/
theorem filled_apply (P : ℕ → Par F) (H : FVec F T4x64x8x128 .f32) (k : ℕ) (j : T4x64x8x128.Idx) :
    filled P H k j = if (j 0).val < k then acc (P (j 0)) 31 (j 1) (lane j) else H j := by
  induction k with
  | zero => rfl
  | succ k ih =>
    show Hst k (filled P H k) (P k) 32 0 j = _
    rw [Hst_end, ih]
    by_cases h : (j 0).val = k
    · rw [if_pos h, if_pos (by omega), h]
    · rw [if_neg h]
      by_cases h' : (j 0).val < k
      · rw [if_pos h', if_pos (by omega)]
      · rw [if_neg h', if_neg (by omega)]

/-- The full histogram buffer does not depend on what it held before. -/
theorem filled_indep (P : ℕ → Par F) (H H' : FVec F T4x64x8x128 .f32) : filled P H 4 = filled P H' 4 := by
  funext j
  have h : (j 0).val < 4 := (j 0).isLt
  rw [filled_apply, filled_apply, if_pos h, if_pos h]

/-- The numbers of a visit depend on the four bounds only. -/
theorem mkPar_congr {kq sqk dlt2 dltsq dltsq2 cb0 cb16 cb32 cb48 : F .f32} {M M' : FVec F T8 .f32}
    (h : ∀ n < 4, bound M n = bound M' n) (X1 X2 : FVec F T1x512x512 .f32) :
    mkPar kq sqk dlt2 dltsq dltsq2 cb0 cb16 cb32 cb48 M X1 X2 = mkPar kq sqk dlt2 dltsq dltsq2 cb0 cb16 cb32 cb48 M' X1 X2 := by
  unfold mkPar
  rw [h 0 (by norm_num), h 1 (by norm_num), h 2 (by norm_num), h 3 (by norm_num)]

section State

variable (A B : ℕ → FVec F T1x512x512 .f32) (par : FVec F T8 .f32 → FVec F T1x512x512 .f32 → FVec F T1x512x512 .f32 → Par F)

/-- The planes after the first pass. -/
def ends : FVec F T4x8x128 .f32 := seen A B blank 3

/-- The numbers of visit `k` of the second pass, whose blocks are those of point `4 + k`. -/
def visit (k : ℕ) : Par F := par (bounds (ends A B) blank 4) (A (4 + k)) (B (4 + k))

/-- The histograms at the end. -/
def done : FVec F T4x64x8x128 .f32 := filled (visit A B par) blank 4

/-- What the three scratch buffers hold before point `n`. -/
def Inv : ℕ → FVec F T8 .f32 → FVec F T4x64x8x128 .f32 → FVec F T4x8x128 .f32 → Prop
  | 0 => fun _ _ _ => True
  | 1 => fun _ _ V => V = seen A B blank 0
  | 2 => fun _ _ V => V = seen A B blank 1
  | 3 => fun _ _ V => V = seen A B blank 2
  | 4 => fun _ _ V => V = ends A B
  | n + 5 => fun M H _ => (∀ k < 4, bound M k = bound (bounds (ends A B) blank 4) k) ∧ ∃ H0, H = filled (visit A B par) H0 (n + 1)

end State

end Cert.MI
-- ==== Proof.Hist.lean ====
/- The second pass of the body (grid coordinate 0 equal to 1), run: the histogram buffer goes from what it held
   to the 32 slabs' sums for the image pair visited. -/
module

public import proofs.«01_k».proof.Proof.Model
public import proofs.«01_k».proof.Proof.Gen.KernelIdeal

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MI

attribute [local irreducible] wp Own

variable {F : FTy → Type} [FloatOps F] [Named F]

/-- The row of the histogram buffer that a grid point visits. -/
def row (i : grid0.Coords) : ℕ := k0_off1 i 0

/-- The numbers of a visit, with the constants of this program. -/
def par (M : FVec F T8 .f32) (X1 X2 : FVec F T1x512x512 .f32) : Par F :=
  mkPar (Named.named κ "k_quarter_neg" 0xC81044FE#32) (Named.named κ "sqk" 0x44402DF9#32) (Named.named κ "dlt2" 0x41C02DF9#32)
    (Named.named κ "dltsq" 0x431044FE#32) (Named.named κ "dltsq2" 0x439044FE#32) (Named.named κ "cb0" 0x40C02DF9#32)
    (Named.named κ "cb16" 0x43462F69#32) (Named.named κ "cb32" 0x43C32EB1#32) (Named.named κ "cb48" 0x4411A2D7#32) M X1 X2

variable {U : Type} [URA U] {D : Idealize.ShloMosaic.Defs nD τ sig (Elt F) Λ₀}
variable {𝒱 : Variants} {c : Dev nD} {bd : Option 𝒱.V} {E : Set ℕ}

local notation "𝕄" => MT nD τ sig Unit (Elt F) ℕ U ℕ

variable {i : grid0.Coords}
variable {arg2 : Memref sig .tc .vmem S1x512x512 .f32} {harg2 : arg2.IsWhole} {arg3 : Memref sig .tc .vmem S1x512x512 .f32} {harg3 : arg3.IsWhole}
variable {arg4 : Memref sig .tc .smem S1 .f32} {harg4 : arg4.IsWhole} {arg5 : Memref sig .tc .smem S8 .f32} {harg5 : arg5.IsWhole}
variable {arg6 : Memref sig .tc .vmem S4x64x8x128 .f32} {harg6 : arg6.IsWhole} {arg7 : Memref sig .tc .vmem S4x8x128 .f32} {harg7 : arg7.IsWhole}
variable {X1 X2 : FVec F S1x512x512 .f32} {O : FVec F S1 .f32} {M : FVec F S8 .f32} {H : FVec F S4x64x8x128 .f32} {V : FVec F S4x8x128 .f32}

/-- Whether the visit is the first of the second pass, as the body tests it. -/
def isFirst (i : grid0.Coords) : Prop :=
  Scalar.cmpi .ne (Scalar.extui (Scalar.cmpi .eq (BitVec.ofNat 32 (i 1).val) 0#32)) 0#32 = 1#1

instance : Decidable (isFirst i) := inferInstanceAs (Decidable (_ = _))

/-- The bounds during a visit of the second pass: the first of them works them out. -/
def bnds (i : grid0.Coords) (M : FVec F T8 .f32) (V : FVec F T4x8x128 .f32) : FVec F T8 .f32 :=
  if isFirst i then bounds V M 4 else M

/-- The start of a visit once the bounds are there. -/
theorem start {P : Par F} (hP : P = par M X1 X2)
    {Q : (Σ' (v9 : Elt F .f32) (v11 : Elt F .f32) (v15 : F .f32) (v18 : F .f32) (v35 : FVec F S8x512 .f32), FVec F S8x512 .f32) →
      sProp (MT nD τ sig Unit (Elt F) ℕ U ℕ)}
    (h : ¬isFirst i)
    (hk : (Own (c : Thread nD τ) arg2 arg3 arg4 arg5 arg6 arg7 X1 X2 O M H V : sProp 𝕄) ⊢ Q ⟨P.mn1, P.mn2, P.inv1, P.inv2,
      subf (addf (half1 P 0) (half2 P 0)) (broadcast T8x512 (Scalar.mulf (Scalar.ofBits .f32 0x3F000000#32)
        (Scalar.addf (Scalar.mulf P.mn1 P.inv1) (Scalar.mulf P.mn2 P.inv2)))), mulf (diff P 0) (diff P 0)⟩) :
    (Own (c : Thread nD τ) arg2 arg3 arg4 arg5 arg6 arg7 X1 X2 O M H V : sProp 𝕄) ⊢ wp frame (wpE D 𝒱 c bd) E
      (k0_part10 i arg2 harg2 arg3 harg3 arg4 harg4 arg5 harg5 arg6 harg6 arg7 harg7 (BitVec.ofNat 32 (i 1).val)) Q := by
  subst hP
  unfold k0_part10
  refine skip h ?_
  repeat (first | refine ld5 ?_ | refine ld2 ?_ | refine ld3 ?_ | refine enter ?_ | refine leave ?_)
  exact hk

/-- The same for the first visit, which stores the bounds. -/
theorem start_first {P : Par F} (hP : P = par (bounds V M 4) X1 X2)
    {Q : (Σ' (v9 : Elt F .f32) (v11 : Elt F .f32) (v15 : F .f32) (v18 : F .f32) (v35 : FVec F S8x512 .f32), FVec F S8x512 .f32) →
      sProp (MT nD τ sig Unit (Elt F) ℕ U ℕ)}
    (h : isFirst i)
    (hk : (Own (c : Thread nD τ) arg2 arg3 arg4 arg5 arg6 arg7 X1 X2 O (bounds V M 4) H V : sProp 𝕄) ⊢ Q ⟨P.mn1, P.mn2, P.inv1, P.inv2,
      subf (addf (half1 P 0) (half2 P 0)) (broadcast T8x512 (Scalar.mulf (Scalar.ofBits .f32 0x3F000000#32)
        (Scalar.addf (Scalar.mulf P.mn1 P.inv1) (Scalar.mulf P.mn2 P.inv2)))), mulf (diff P 0) (diff P 0)⟩) :
    (Own (c : Thread nD τ) arg2 arg3 arg4 arg5 arg6 arg7 X1 X2 O M H V : sProp 𝕄) ⊢ wp frame (wpE D 𝒱 c bd) E
      (k0_part10 i arg2 harg2 arg3 harg3 arg4 harg4 arg5 harg5 arg6 harg6 arg7 harg7 (BitVec.ofNat 32 (i 1).val)) Q := by
  subst hP
  unfold k0_part10
  refine take h ?_
  have h0 := bounds_zero V M
  rw [← h0]
  repeat (first | refine ld7 ?_ | refine ld5 ?_ | refine st5 (bounds_in (by rfl) (by rfl)) (bounds_out (by rfl)) ?_ | refine ld2 ?_ | refine ld3 ?_ |
      refine enter ?_ | refine leave ?_)
  exact hk

section Steps

variable {α β : Type} {Q : α → sProp (MT nD τ sig Unit (Elt F) ℕ U ℕ)} {P : Par F} {ρ n s : ℕ}

/-- A load at the head of a sequence, of each of the buffers the loop reads. -/
theorem seq2 {off : Fin 3 → ℕ} {inb : ∀ a, off a + S1x8x512.size a ≤ S1x512x512.size a}
    {hl : arg2.view.LoadsAt (Rect.unit (s := S1x512x512) off S1x8x512.size inb).toLoadRect} {f : Vec F S1x8x512 .f32 → Prog (TpuEff nD τ sig (Elt F) Λ₀ .tc) α}
    (hk : (Own (c : Thread nD τ) arg2 arg3 arg4 arg5 arg6 arg7 X1 X2 O M H V : sProp 𝕄) ⊢ wp frame (wpE D 𝒱 c bd) E (f (View.ld (Val := Elt F) (e' := .f32) X1 (Rect.unit (s := S1x512x512) off S1x8x512.size inb))) Q) :
    (Own (c : Thread nD τ) arg2 arg3 arg4 arg5 arg6 arg7 X1 X2 O M H V : sProp 𝕄) ⊢ wp frame (wpE D 𝒱 c bd) E
      ((Prog.lift (.load arg2 (Rect.unit (s := S1x512x512) off S1x8x512.size inb).toLoadRect hl) : Prog (TpuEff nD τ sig (Elt F) Λ₀ .tc) (Vec F S1x8x512 .f32)) >>= f) Q :=
  enter (ld2 (leave hk))

theorem seq3 {off : Fin 3 → ℕ} {inb : ∀ a, off a + S1x8x512.size a ≤ S1x512x512.size a}
    {hl : arg3.view.LoadsAt (Rect.unit (s := S1x512x512) off S1x8x512.size inb).toLoadRect} {f : Vec F S1x8x512 .f32 → Prog (TpuEff nD τ sig (Elt F) Λ₀ .tc) α}
    (hk : (Own (c : Thread nD τ) arg2 arg3 arg4 arg5 arg6 arg7 X1 X2 O M H V : sProp 𝕄) ⊢ wp frame (wpE D 𝒱 c bd) E (f (View.ld (Val := Elt F) (e' := .f32) X2 (Rect.unit (s := S1x512x512) off S1x8x512.size inb))) Q) :
    (Own (c : Thread nD τ) arg2 arg3 arg4 arg5 arg6 arg7 X1 X2 O M H V : sProp 𝕄) ⊢ wp frame (wpE D 𝒱 c bd) E
      ((Prog.lift (.load arg3 (Rect.unit (s := S1x512x512) off S1x8x512.size inb).toLoadRect hl) : Prog (TpuEff nD τ sig (Elt F) Λ₀ .tc) (Vec F S1x8x512 .f32)) >>= f) Q :=
  enter (ld3 (leave hk))

theorem seq6 {off : Fin 4 → ℕ} {inb : ∀ a, off a + S1x1x8x128.size a ≤ S4x64x8x128.size a}
    {hl : arg6.view.LoadsAt (Rect.unit (s := S4x64x8x128) off S1x1x8x128.size inb).toLoadRect} {f : Vec F S1x1x8x128 .f32 → Prog (TpuEff nD τ sig (Elt F) Λ₀ .tc) α}
    (hk : (Own (c : Thread nD τ) arg2 arg3 arg4 arg5 arg6 arg7 X1 X2 O M H V : sProp 𝕄) ⊢ wp frame (wpE D 𝒱 c bd) E (f (View.ld (Val := Elt F) (e' := .f32) H (Rect.unit (s := S4x64x8x128) off S1x1x8x128.size inb))) Q) :
    (Own (c : Thread nD τ) arg2 arg3 arg4 arg5 arg6 arg7 X1 X2 O M H V : sProp 𝕄) ⊢ wp frame (wpE D 𝒱 c bd) E
      ((Prog.lift (.load arg6 (Rect.unit (s := S4x64x8x128) off S1x1x8x128.size inb).toLoadRect hl) : Prog (TpuEff nD τ sig (Elt F) Λ₀ .tc) (Vec F S1x1x8x128 .f32)) >>= f) Q :=
  enter (ld6 (leave hk))

/-- The same, of the first load of a part. -/
theorem lone2 {off : Fin 3 → ℕ} {inb : ∀ a, off a + S1x8x512.size a ≤ S1x512x512.size a}
    {hl : arg2.view.LoadsAt (Rect.unit (s := S1x512x512) off S1x8x512.size inb).toLoadRect} {G : Vec F S1x8x512 .f32 → sProp (MT nD τ sig Unit (Elt F) ℕ U ℕ)}
    (hk : (Own (c : Thread nD τ) arg2 arg3 arg4 arg5 arg6 arg7 X1 X2 O M H V : sProp 𝕄) ⊢ G (View.ld (Val := Elt F) (e' := .f32) X1 (Rect.unit (s := S1x512x512) off S1x8x512.size inb))) :
    (Own (c : Thread nD τ) arg2 arg3 arg4 arg5 arg6 arg7 X1 X2 O M H V : sProp 𝕄) ⊢ wp frame (wpE D 𝒱 c bd) E
      (Prog.lift (.load arg2 (Rect.unit (s := S1x512x512) off S1x8x512.size inb).toLoadRect hl) : Prog (TpuEff nD τ sig (Elt F) Λ₀ .tc) (Vec F S1x8x512 .f32)) G :=
  ld2 (leave hk)

theorem lone3 {off : Fin 3 → ℕ} {inb : ∀ a, off a + S1x8x512.size a ≤ S1x512x512.size a}
    {hl : arg3.view.LoadsAt (Rect.unit (s := S1x512x512) off S1x8x512.size inb).toLoadRect} {G : Vec F S1x8x512 .f32 → sProp (MT nD τ sig Unit (Elt F) ℕ U ℕ)}
    (hk : (Own (c : Thread nD τ) arg2 arg3 arg4 arg5 arg6 arg7 X1 X2 O M H V : sProp 𝕄) ⊢ G (View.ld (Val := Elt F) (e' := .f32) X2 (Rect.unit (s := S1x512x512) off S1x8x512.size inb))) :
    (Own (c : Thread nD τ) arg2 arg3 arg4 arg5 arg6 arg7 X1 X2 O M H V : sProp 𝕄) ⊢ wp frame (wpE D 𝒱 c bd) E
      (Prog.lift (.load arg3 (Rect.unit (s := S1x512x512) off S1x8x512.size inb).toLoadRect hl) : Prog (TpuEff nD τ sig (Elt F) Λ₀ .tc) (Vec F S1x8x512 .f32)) G :=
  ld3 (leave hk)

theorem lone6 {off : Fin 4 → ℕ} {inb : ∀ a, off a + S1x1x8x128.size a ≤ S4x64x8x128.size a}
    {hl : arg6.view.LoadsAt (Rect.unit (s := S4x64x8x128) off S1x1x8x128.size inb).toLoadRect} {G : Vec F S1x1x8x128 .f32 → sProp (MT nD τ sig Unit (Elt F) ℕ U ℕ)}
    (hk : (Own (c : Thread nD τ) arg2 arg3 arg4 arg5 arg6 arg7 X1 X2 O M H V : sProp 𝕄) ⊢ G (View.ld (Val := Elt F) (e' := .f32) H (Rect.unit (s := S4x64x8x128) off S1x1x8x128.size inb))) :
    (Own (c : Thread nD τ) arg2 arg3 arg4 arg5 arg6 arg7 X1 X2 O M H V : sProp 𝕄) ⊢ wp frame (wpE D 𝒱 c bd) E
      (Prog.lift (.load arg6 (Rect.unit (s := S4x64x8x128) off S1x1x8x128.size inb).toLoadRect hl) : Prog (TpuEff nD τ sig (Elt F) Λ₀ .tc) (Vec F S1x1x8x128 .f32)) G :=
  ld6 (leave hk)

variable {off : Fin 4 → ℕ} {inb : ∀ a, off a + S1x1x8x128.size a ≤ S4x64x8x128.size a} {w : S1x1x8x128.Idx → Elt F .f32}
variable {hx : (arg6.access (Rect.unit (s := S4x64x8x128) off S1x1x8x128.size inb)).Stores Finset.univ}
variable {hm : (Finset.univ : Finset (Rect.unit (s := S4x64x8x128) off S1x1x8x128.size inb).shape.Idx) = Finset.univ ∨
  ∀ a, (Rect.unit (s := S4x64x8x128) off S1x1x8x128.size inb).stride a = 1}
variable {f : PUnit → Prog (TpuEff nD τ sig (Elt F) Λ₀ .tc) α}

/-- One bin's store at the head of a sequence: in the first slab, and in a later one. -/
theorem seq_first (hn : n < 64) (hoff : off = ![ρ, n, 0, 0]) (hw : w = shapeCast T1x1x8x128 (tile P 0 n) casts_tile)
    (hk : (Own (c : Thread nD τ) arg2 arg3 arg4 arg5 arg6 arg7 X1 X2 O M (Hst ρ H P 0 (n + 1)) V : sProp 𝕄) ⊢ wp frame (wpE D 𝒱 c bd) E (f ⟨⟩) Q) :
    (Own (c : Thread nD τ) arg2 arg3 arg4 arg5 arg6 arg7 X1 X2 O M (Hst ρ H P 0 n) V : sProp 𝕄) ⊢ wp frame (wpE D 𝒱 c bd) E
      (Prog.lift (.store arg6 (Rect.unit (s := S4x64x8x128) off S1x1x8x128.size inb) w Finset.univ hx hm) >>= f) Q :=
  enter (bin_first hoff hw (leave hk))

theorem seq_later (hn : n < 64) (hoff : off = ![ρ, n, 0, 0])
    (hw : w = shapeCast T1x1x8x128 (addf (shapeCast T8x128 (View.ld (Val := Elt F) (e' := .f32) (Hst ρ H P (s + 1) n)
      (Rect.unit (s := T4x64x8x128) off T1x1x8x128.size inb)) casts_tile') (tile P (s + 1) n)) casts_tile)
    (hk : (Own (c : Thread nD τ) arg2 arg3 arg4 arg5 arg6 arg7 X1 X2 O M (Hst ρ H P (s + 1) (n + 1)) V : sProp 𝕄) ⊢ wp frame (wpE D 𝒱 c bd) E (f ⟨⟩) Q) :
    (Own (c : Thread nD τ) arg2 arg3 arg4 arg5 arg6 arg7 X1 X2 O M (Hst ρ H P (s + 1) n) V : sProp 𝕄) ⊢ wp frame (wpE D 𝒱 c bd) E
      (Prog.lift (.store arg6 (Rect.unit (s := S4x64x8x128) off S1x1x8x128.size inb) w Finset.univ hx hm) >>= f) Q :=
  enter (bin_later hoff hw (leave hk))

/-- The same, when the store is the first operation of a part. -/
theorem lone_first {G : PUnit → sProp (MT nD τ sig Unit (Elt F) ℕ U ℕ)} (hn : n < 64) (hoff : off = ![ρ, n, 0, 0])
    (hw : w = shapeCast T1x1x8x128 (tile P 0 n) casts_tile)
    (hk : (Own (c : Thread nD τ) arg2 arg3 arg4 arg5 arg6 arg7 X1 X2 O M (Hst ρ H P 0 (n + 1)) V : sProp 𝕄) ⊢ G ⟨⟩) :
    (Own (c : Thread nD τ) arg2 arg3 arg4 arg5 arg6 arg7 X1 X2 O M (Hst ρ H P 0 n) V : sProp 𝕄) ⊢ wp frame (wpE D 𝒱 c bd) E
      (Prog.lift (.store arg6 (Rect.unit (s := S4x64x8x128) off S1x1x8x128.size inb) w Finset.univ hx hm) : Prog (TpuEff nD τ sig (Elt F) Λ₀ .tc) PUnit) G :=
  bin_first hoff hw (leave hk)

theorem lone_later {G : PUnit → sProp (MT nD τ sig Unit (Elt F) ℕ U ℕ)} (hn : n < 64) (hoff : off = ![ρ, n, 0, 0])
    (hw : w = shapeCast T1x1x8x128 (addf (shapeCast T8x128 (View.ld (Val := Elt F) (e' := .f32) (Hst ρ H P (s + 1) n)
      (Rect.unit (s := T4x64x8x128) off T1x1x8x128.size inb)) casts_tile') (tile P (s + 1) n)) casts_tile)
    (hk : (Own (c : Thread nD τ) arg2 arg3 arg4 arg5 arg6 arg7 X1 X2 O M (Hst ρ H P (s + 1) (n + 1)) V : sProp 𝕄) ⊢ G ⟨⟩) :
    (Own (c : Thread nD τ) arg2 arg3 arg4 arg5 arg6 arg7 X1 X2 O M (Hst ρ H P (s + 1) n) V : sProp 𝕄) ⊢ wp frame (wpE D 𝒱 c bd) E
      (Prog.lift (.store arg6 (Rect.unit (s := S4x64x8x128) off S1x1x8x128.size inb) w Finset.univ hx hm) : Prog (TpuEff nD τ sig (Elt F) Λ₀ .tc) PUnit) G :=
  bin_later hoff hw (leave hk)

/-- The end of a part. -/
theorem seq_pure {R : sProp (MT nD τ sig Unit (Elt F) ℕ U ℕ)} {v : α} (hk : R ⊢ Q v) :
    R ⊢ wp frame (wpE D 𝒱 (c : Thread nD τ) bd) E (pure v : Prog (TpuEff nD τ sig (Elt F) Λ₀ .tc) α) Q :=
  leave hk

/-- A part at the head of a sequence. -/
theorem seq_part {R : sProp (MT nD τ sig Unit (Elt F) ℕ U ℕ)} {p : Prog (TpuEff nD τ sig (Elt F) Λ₀ .tc) β}
    {f : β → Prog (TpuEff nD τ sig (Elt F) Λ₀ .tc) α}
    (h : R ⊢ wp frame (wpE D 𝒱 c bd) E p fun a => wp frame (wpE D 𝒱 c bd) E (f a) Q) :
    R ⊢ wp frame (wpE D 𝒱 (c : Thread nD τ) bd) E (p >>= f) Q :=
  enter h

end Steps

/-- The start of a visit, first or not. -/
theorem start_all
    {Q : (Σ' (v9 : Elt F .f32) (v11 : Elt F .f32) (v15 : F .f32) (v18 : F .f32) (v35 : FVec F S8x512 .f32), FVec F S8x512 .f32) →
      sProp (MT nD τ sig Unit (Elt F) ℕ U ℕ)}
    (hk : ∀ M', M' = bnds i M V → ((Own (c : Thread nD τ) arg2 arg3 arg4 arg5 arg6 arg7 X1 X2 O M' H V : sProp 𝕄) ⊢
      Q ⟨(par M' X1 X2).mn1, (par M' X1 X2).mn2, (par M' X1 X2).inv1, (par M' X1 X2).inv2,
      subf (addf (half1 (par M' X1 X2) 0) (half2 (par M' X1 X2) 0)) (broadcast T8x512 (Scalar.mulf (Scalar.ofBits .f32 0x3F000000#32)
        (Scalar.addf (Scalar.mulf (par M' X1 X2).mn1 (par M' X1 X2).inv1) (Scalar.mulf (par M' X1 X2).mn2 (par M' X1 X2).inv2)))),
      mulf (diff (par M' X1 X2) 0) (diff (par M' X1 X2) 0)⟩)) :
    (Own (c : Thread nD τ) arg2 arg3 arg4 arg5 arg6 arg7 X1 X2 O M H V : sProp 𝕄) ⊢ wp frame (wpE D 𝒱 c bd) E
      (k0_part10 i arg2 harg2 arg3 harg3 arg4 harg4 arg5 harg5 arg6 harg6 arg7 harg7 (BitVec.ofNat 32 (i 1).val)) Q := by
  by_cases h : isFirst i
  · exact start_first rfl h (hk _ (if_pos h).symm)
  · exact start rfl h (hk _ (if_neg h).symm)

end Cert.KernelIdeal.Run
-- ==== Proof.Plane.lean ====
/- Three small facts for running the first pass. -/
module

public import proofs.«01_k».proof.Proof.Model

@[expose] public section

noncomputable section

namespace Cert.MI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A plane put together with the one loaded. -/
theorem later_min {W : ℕ → FVec F T8x128 .f32} {V : FVec F T4x8x128 .f32} {n : ℕ} {t : FVec F T8x128 .f32} {w : T1x8x128.Idx → F .f32}
    (hn : n < 4) (hW : W n = minimumf (plane V n) t) (hw : w = shapeCast T1x8x128 (minimumf (plane (planes W V n) n) t) casts_plane') :
    w = shapeCast T1x8x128 (W n) casts_plane' := by rw [hw, plane_planes hn, hW]

theorem later_max {W : ℕ → FVec F T8x128 .f32} {V : FVec F T4x8x128 .f32} {n : ℕ} {t : FVec F T8x128 .f32} {w : T1x8x128.Idx → F .f32}
    (hn : n < 4) (hW : W n = maximumf (plane V n) t) (hw : w = shapeCast T1x8x128 (maximumf (plane (planes W V n) n) t) casts_plane') :
    w = shapeCast T1x8x128 (W n) casts_plane' := by rw [hw, plane_planes hn, hW]

variable {nD : Nat} {τ : Topo} {sig : RefSig} {Ix : Type} [DecidableEq Ix]
variable {Name : Type} [DecidableEq Name] {U : Type} [URA U]
variable {Lvl : Type} [Preorder Lvl] {c : Thread nD τ}

local notation "𝕄" => MT nD τ sig Ix (Elt F) Name U Lvl

variable {c2 c3 c4 c5 c6 c7 : CoreSpace} {s2 s3 s4 s5 s6 : Shape}
variable {a2 : Memref sig c.2.kind c2 s2 .f32} {a3 : Memref sig c.2.kind c3 s3 .f32} {a4 : Memref sig c.2.kind c4 s4 .f32}
variable {a5 : Memref sig c.2.kind c5 s5 .f32} {a6 : Memref sig c.2.kind c6 s6 .f32} {a7 : Memref sig c.2.kind c7 T4x8x128 .f32}
variable {X1 : s2.Idx → Elt F .f32} {X2 : s3.Idx → Elt F .f32} {O : s4.Idx → Elt F .f32}
variable {M : s5.Idx → Elt F .f32} {H : s6.Idx → Elt F .f32} {V : FVec F T4x8x128 .f32}

/-- At the start of a visit no plane has been replaced. -/
theorem planes_start (W : ℕ → FVec F T8x128 .f32) {R : sProp (MT nD τ sig Ix (Elt F) Name U Lvl)}
    (hk : (Own c a2 a3 a4 a5 a6 a7 X1 X2 O M H (planes W V 0) : sProp 𝕄) ⊢ R) :
    (Own c a2 a3 a4 a5 a6 a7 X1 X2 O M H V : sProp 𝕄) ⊢ R := by
  rw [planes_zero] at hk; exact hk

end Cert.MI
-- ==== Proof.First.lean ====
/- The first pass of the body (grid coordinate 0 equal to 0), run: the four running planes take in the image pair visited. -/
module

public import proofs.«01_k».proof.Proof.Hist
public import proofs.«01_k».proof.Proof.Plane

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MI

attribute [local irreducible] wp Own

variable {F : FTy → Type} [FloatOps F] [Named F]

variable {U : Type} [URA U] {D : Idealize.ShloMosaic.Defs nD τ sig (Elt F) Λ₀}
variable {𝒱 : Variants} {c : Dev nD} {bd : Option 𝒱.V} {E : Set ℕ}

local notation "𝕄" => MT nD τ sig Unit (Elt F) ℕ U ℕ

variable {i : grid0.Coords}
variable {arg2 : Memref sig .tc .vmem S1x512x512 .f32} {harg2 : arg2.IsWhole} {arg3 : Memref sig .tc .vmem S1x512x512 .f32} {harg3 : arg3.IsWhole}
variable {arg4 : Memref sig .tc .smem S1 .f32} {harg4 : arg4.IsWhole} {arg5 : Memref sig .tc .smem S8 .f32} {harg5 : arg5.IsWhole}
variable {arg6 : Memref sig .tc .vmem S4x64x8x128 .f32} {harg6 : arg6.IsWhole} {arg7 : Memref sig .tc .vmem S4x8x128 .f32} {harg7 : arg7.IsWhole}
variable {X1 X2 : FVec F S1x512x512 .f32} {O : FVec F S1 .f32} {M : FVec F S8 .f32} {H : FVec F S4x64x8x128 .f32} {V : FVec F S4x8x128 .f32}

/-- Whether the visit is a later one of the first pass, as the body tests it. -/
def isLater (i : grid0.Coords) : Prop :=
  Scalar.cmpi .ne (Scalar.extui (Scalar.cmpi .sgt (BitVec.ofNat 32 (i 1).val) 0#32)) 0#32 = 1#1

instance : Decidable (isLater i) := inferInstanceAs (Decidable (_ = _))

/-- The first visit of the first pass. -/
theorem run_first (h1 : Scalar.cmpi .ne (Scalar.extui (Scalar.cmpi .eq (BitVec.ofNat 32 (i 0).val) 0#32)) 0#32 = 1#1)
    (h2 : isFirst i) (h3 : ¬isLater i) (h4 : ¬k0_cond4 i = 1#1) (Q : PUnit → sProp (MT nD τ sig Unit (Elt F) ℕ U ℕ))
    (hk : (Own (c : Thread nD τ) arg2 arg3 arg4 arg5 arg6 arg7 X1 X2 O M H (planes (fresh X1 X2) V 4) : sProp 𝕄) ⊢ Q ⟨⟩) :
    (Own (c : Thread nD τ) arg2 arg3 arg4 arg5 arg6 arg7 X1 X2 O M H V : sProp 𝕄) ⊢
      wp frame (wpE D 𝒱 c bd) E (cc0__body i arg2 harg2 arg3 harg3 arg4 harg4 arg5 harg5 arg6 harg6 arg7 harg7) Q := by
  unfold cc0__body
  refine take h1 ?_
  refine planes_start (fresh X1 X2) ?_
  repeat (first | refine ld2 ?_ | refine ld3 ?_ | refine enter ?_ | refine leave ?_)
  refine take h2 ?_
  repeat (first | refine ld7 ?_ | refine st7 (plane_in (by rfl) (by rfl)) (plane_out (by rfl)) ?_ | refine enter ?_ | refine leave ?_)
  refine skip h3 ?_
  refine skip h4 ?_
  exact leave hk

/-- A later visit of the first pass. -/
theorem run_later (h1 : Scalar.cmpi .ne (Scalar.extui (Scalar.cmpi .eq (BitVec.ofNat 32 (i 0).val) 0#32)) 0#32 = 1#1)
    (h2 : ¬isFirst i) (h3 : isLater i) (h4 : ¬k0_cond4 i = 1#1) (Q : PUnit → sProp (MT nD τ sig Unit (Elt F) ℕ U ℕ))
    (hk : (Own (c : Thread nD τ) arg2 arg3 arg4 arg5 arg6 arg7 X1 X2 O M H (planes (joined V X1 X2) V 4) : sProp 𝕄) ⊢ Q ⟨⟩) :
    (Own (c : Thread nD τ) arg2 arg3 arg4 arg5 arg6 arg7 X1 X2 O M H V : sProp 𝕄) ⊢
      wp frame (wpE D 𝒱 c bd) E (cc0__body i arg2 harg2 arg3 harg3 arg4 harg4 arg5 harg5 arg6 harg6 arg7 harg7) Q := by
  unfold cc0__body
  refine take h1 ?_
  refine planes_start (joined V X1 X2) ?_
  repeat (first | refine ld2 ?_ | refine ld3 ?_ | refine enter ?_ | refine leave ?_)
  refine skip h2 ?_
  refine take h3 ?_
  repeat (first | refine ld7 ?_ | refine st7 (plane_in (by rfl) (later_min (by decide) (by rfl) (by rfl))) (plane_out (by rfl)) ?_ |
      refine st7 (plane_in (by rfl) (later_max (by decide) (by rfl) (by rfl))) (plane_out (by rfl)) ?_ | refine enter ?_ | refine leave ?_)
  refine skip h4 ?_
  exact leave hk

end Cert.KernelIdeal.Run
-- ==== Proof.Last.lean ====
/- The end of the last visit: the mutual information of the four histograms is worked out and stored. -/
module

public import proofs.«01_k».proof.Proof.Hist

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MI
open Cert.KernelIdeal.Facts₀ Cert.KernelIdeal.Facts

attribute [local irreducible] wp Own

variable {F : FTy → Type} [FloatOps F] [Named F]
variable {U : Type} [URA U] {D : Idealize.ShloMosaic.Defs nD τ sig (Elt F) Λ₀}
variable {𝒱 : Variants} {c : Dev nD} {bd : Option 𝒱.V} {E : Set ℕ}

local notation "𝕄" => MT nD τ sig Unit (Elt F) ℕ U ℕ

variable {i : grid0.Coords}
variable {arg2 : Memref sig .tc .vmem S1x512x512 .f32} {harg2 : arg2.IsWhole} {arg3 : Memref sig .tc .vmem S1x512x512 .f32} {harg3 : arg3.IsWhole}
variable {arg4 : Memref sig .tc .smem S1 .f32} {harg4 : arg4.IsWhole} {arg5 : Memref sig .tc .smem S8 .f32} {harg5 : arg5.IsWhole}
variable {arg6 : Memref sig .tc .vmem S4x64x8x128 .f32} {harg6 : arg6.IsWhole} {arg7 : Memref sig .tc .vmem S4x8x128 .f32} {harg7 : arg7.IsWhole}
variable {X1 X2 : FVec F S1x512x512 .f32} {O : FVec F S1 .f32} {M : FVec F S8 .f32} {H : FVec F S4x64x8x128 .f32} {V : FVec F S4x8x128 .f32}

/-- The last visit stores the result; the others leave it. -/
theorem last (Q : PUnit → sProp (MT nD τ sig Unit (Elt F) ℕ U ℕ))
    (hk : (Own (c : Thread nD τ) arg2 arg3 arg4 arg5 arg6 arg7 X1 X2 (if k0_cond6 i = 1#1 then fun _ => miOf H else O) M H V : sProp 𝕄) ⊢ Q ⟨⟩) :
    (Own (c : Thread nD τ) arg2 arg3 arg4 arg5 arg6 arg7 X1 X2 O M H V : sProp 𝕄) ⊢ wp frame (wpE D 𝒱 c bd) E
      (do
        if k0_h6 : k0_cond6 i = 1#1 then do
          let v65942 : Vec F S4x64x8x128 .f32 ← Prog.lift (.load arg6 (Rect.unit (s := S4x64x8x128) ![0, 0, 0, 0] S4x64x8x128.size inb_S4x64x8x128_S4x64x8x128_0_0_0_0).toLoadRect (View.loadsAt_vmem h_S4x64x8x128))
          have v65943 : FVec F S4x64x128 .f32 := multiReduction .add [2] S4x64x128 v65942 0x00000000#32 reduces_S4x64x8x128_S4x64x128 (.inl rfl) rfl
          have v65944 : FVec F S4x64 .f32 := multiReduction .add [2] S4x64 v65943 0x00000000#32 reduces_S4x64x128_S4x64 (.inl rfl) rfl
          have cst_17114 : F .f32 := Scalar.ofBits .f32 0x35800000#32
          have v65945 : FVec F S4x64 .f32 := broadcast S4x64 cst_17114
          have v65946 : FVec F S4x64 .f32 := mulf v65944 v65945
          have v65947 : FVec F S4 .f32 := multiReduction .add [1] S4 v65946 0x00000000#32 reduces_S4x64_S4 (.inl rfl) rfl
          have v65948 : FVec F S4x1 .f32 := shapeCast S4x1 v65947 shapeCasts_S4_S4x1
          have cst_17116 : F .f32 := Scalar.ofBits .f32 0x34000000#32
          have v65949 : FVec F S4x1 .f32 := broadcast S4x1 cst_17116
          have v65950 : FVec F S4x1 .f32 := addf v65948 v65949
          have v65951 : FVec F S4x64 .f32 := broadcastTo S4x64 v65950 broadcasts_S4x1_S4x64
          have v65952 : FVec F S4x64 .f32 := divf v65946 v65951
          have v65953 : FVec F S4 .f32 := multiReduction .add [1] S4 v65952 0x00000000#32 reduces_S4x64_S4 (.inl rfl) rfl
          have v65954 : FVec F S4x1 .f32 := shapeCast S4x1 v65953 shapeCasts_S4_S4x1
          have v65955 : FVec F S64 .f32 := multiReduction .add [0] S64 v65952 0x00000000#32 reduces_S4x64_S64 (.inl rfl) rfl
          have v65956 : FVec F S1x64 .f32 := shapeCast S1x64 v65955 shapeCasts_S64_S1x64
          have v65957 : FVec F S4x64 .f32 := broadcastTo S4x64 v65954 broadcasts_S4x1_S4x64
          have v65958 : FVec F S4x64 .f32 := broadcastTo S4x64 v65956 broadcasts_S1x64_S4x64
          have v65959 : FVec F S4x64 .f32 := mulf v65957 v65958
          have cst_17119 : F .f32 := Scalar.ofBits .f32 0x34000000#32
          have v65960 : FVec F S4x64 .f32 := broadcast S4x64 cst_17119
          have v65961 : FVec F S4x64 .f32 := addf v65952 v65960
          have cst_17120 : F .f32 := Scalar.ofBits .f32 0x34000000#32
          have v65962 : FVec F S4x64 .f32 := broadcast S4x64 cst_17120
          have v65963 : FVec F S4x64 .f32 := addf v65959 v65962
          have v65964 : FVec F S4x64 .f32 := divf v65961 v65963
          have cst_17121 : F .f32 := Scalar.ofBits .f32 0x34000000#32
          have v65965 : FVec F S4x64 .f32 := broadcast S4x64 cst_17121
          have v65966 : FVec F S4x64 .f32 := addf v65964 v65965
          have v65967 : FVec F S4x64 .f32 := log v65966
          have v65968 : FVec F S4x64 .f32 := mulf v65952 v65967
          have v65969 : FVec F S1x4x64 .f32 := shapeCast S1x4x64 v65968 shapeCasts_S4x64_S1x4x64
          have v65970 : FVec F S1 .f32 := multiReduction .add [1, 2] S1 v65969 0x00000000#32 reduces_S1x4x64_S1 (.inl rfl) rfl
          have v65971 : FVec F S1x1x1 .f32 := shapeCast S1x1x1 v65970 shapeCasts_S1_S1x1x1
          have v65972 : F .f32 := extractAt ![0, 0, 0] v65971 inpos_S1x1x1_p0_0_0
          let v65973 : Elt F .f32 ← smemLoad arg4 (Rect.unit (s := S1) ![0] S1.size inb_S1_S1_0) numel1_S1 rfl
          Prog.lift (.store arg4 (Rect.unit (s := S1) ![0] S1.size inb_S1_S1_0) (fun _ => v65972) Finset.univ (View.stores_smem_one rfl numel1_S1) (.inl rfl))
          pure ⟨⟩
        else do
          pure ⟨⟩
        pure ⟨⟩ : Prog (TpuEff nD τ sig (Elt F) Λ₀ .tc) PUnit) Q := by
  by_cases h : k0_cond6 i = 1#1
  · rw [if_pos h] at hk
    refine take h ?_
    refine enter ?_
    refine ld6 ?_
    refine leave ?_
    refine enter ?_
    refine ld4 ?_
    repeat refine leave ?_
    refine enter ?_
    refine st4 (O' := fun _ => miOf H) (fun _ => rfl) (fun y hy => absurd ?_ hy) ?_
    · rw [Rect.mem_set_unit]
      intro a
      match a with
      | ⟨0, _⟩ => exact ⟨Nat.zero_le _, (y 0).isLt⟩
    · repeat refine leave ?_
      exact hk
  · rw [if_neg h] at hk
    refine skip h ?_
    exact leave hk

end Cert.KernelIdeal.Run
-- ==== Proof.Second.lean ====
/- The second pass of the body (grid coordinate 0 not 0), run: 32 slabs of 64 bins each, then the result. -/
module

public import proofs.«01_k».proof.Proof.Last

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MI

attribute [local irreducible] wp Own

variable {F : FTy → Type} [FloatOps F] [Named F]

variable {U : Type} [URA U] {D : Idealize.ShloMosaic.Defs nD τ sig (Elt F) Λ₀}
variable {𝒱 : Variants} {c : Dev nD} {bd : Option 𝒱.V} {E : Set ℕ}

local notation "𝕄" => MT nD τ sig Unit (Elt F) ℕ U ℕ

variable {i : grid0.Coords}
variable {arg2 : Memref sig .tc .vmem S1x512x512 .f32} {harg2 : arg2.IsWhole} {arg3 : Memref sig .tc .vmem S1x512x512 .f32} {harg3 : arg3.IsWhole}
variable {arg4 : Memref sig .tc .smem S1 .f32} {harg4 : arg4.IsWhole} {arg5 : Memref sig .tc .smem S8 .f32} {harg5 : arg5.IsWhole}
variable {arg6 : Memref sig .tc .vmem S4x64x8x128 .f32} {harg6 : arg6.IsWhole} {arg7 : Memref sig .tc .vmem S4x8x128 .f32} {harg7 : arg7.IsWhole}
variable {X1 X2 : FVec F S1x512x512 .f32} {O : FVec F S1 .f32} {M : FVec F S8 .f32} {H : FVec F S4x64x8x128 .f32} {V : FVec F S4x8x128 .f32}

set_option maxHeartbeats 0 in
set_option maxRecDepth 1000000 in
/-- The second pass at one grid point: the bounds are there, the histogram row holds the 32 slabs' sums, and the last
    visit has written the result. -/
theorem run_second (h4 : k0_cond4 i = 1#1)
    (h1 : ¬ (Scalar.cmpi .ne (Scalar.extui (Scalar.cmpi .eq (BitVec.ofNat 32 (i 0).val) 0#32)) 0#32 = 1#1))
    (Q : PUnit → sProp (MT nD τ sig Unit (Elt F) ℕ U ℕ))
    (hk : ∀ M', M' = bnds i M V → ∀ H', H' = Hst (row i) H (par M' X1 X2) 32 0 →
      ((Own (c : Thread nD τ) arg2 arg3 arg4 arg5 arg6 arg7 X1 X2 (if k0_cond6 i = 1#1 then fun _ => miOf H' else O) M' H' V : sProp 𝕄) ⊢ Q ⟨⟩)) :
    (Own (c : Thread nD τ) arg2 arg3 arg4 arg5 arg6 arg7 X1 X2 O M H V : sProp 𝕄) ⊢
      wp frame (wpE D 𝒱 c bd) E (cc0__body i arg2 harg2 arg3 harg3 arg4 harg4 arg5 harg5 arg6 harg6 arg7 harg7) Q := by
  unfold cc0__body
  refine skip h1 ?_
  refine take h4 ?_
  repeat refine enter ?_
  refine start_all fun M' hM => ?_
  refine slab_start (row i) (par M' X1 X2) ?_
  replace hk := fun H' hH' => hk M' hM H' hH'
  clear hM
  repeat (first | with_reducible refine seq6 ?_ |
     (with_reducible refine seq_later ?_ ?_ ?_ ?_) <;> [decide; rfl; rfl; skip] | (with_reducible refine seq_first ?_ ?_ ?_ ?_) <;> [decide; rfl; rfl; skip] |
     with_reducible refine seq_pure ?_ | with_reducible refine lone6 ?_ | with_reducible refine slab_next ?_ | with_reducible refine seq2 ?_ | with_reducible refine seq3 ?_ |
     (with_reducible refine lone_later ?_ ?_ ?_ ?_) <;> [decide; rfl; rfl; skip] | (with_reducible refine lone_first ?_ ?_ ?_ ?_) <;> [decide; rfl; rfl; skip] |
     with_reducible refine lone2 ?_ | with_reducible refine lone3 ?_ | with_reducible refine seq_part ?_ | refine seq_part ?_ | refine seq_pure ?_)
  exact last Q (hk _ rfl)

end Cert.KernelIdeal.Run
-- ==== Proof.Point.lean ====
/- One point of the grid: what the scratch buffers hold before it gives what they hold after it, and the result is
   stored at the last point only. -/
module

public import proofs.«01_k».proof.Proof.State
public import proofs.«01_k».proof.Proof.First
public import proofs.«01_k».proof.Proof.Second
public import proofs.«01_k».proof.Proof.Gen.KernelIdeal.Launch

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MI Cert.KernelIdeal.Gen

attribute [local irreducible] wp Own

variable {F : FTy → Type} [FloatOps F] [Named F]

variable {U : Type} [URA U] {D : Idealize.ShloMosaic.Defs nD τ sig (Elt F) Λ₀}
variable {𝒱 : Variants} {c : Dev nD} {bd : Option 𝒱.V} {E : Set ℕ}

local notation "𝕄" => MT nD τ sig Unit (Elt F) ℕ U ℕ

variable {arg2 : Memref sig .tc .vmem S1x512x512 .f32} {harg2 : arg2.IsWhole} {arg3 : Memref sig .tc .vmem S1x512x512 .f32} {harg3 : arg3.IsWhole}
variable {arg4 : Memref sig .tc .smem S1 .f32} {harg4 : arg4.IsWhole} {arg5 : Memref sig .tc .smem S8 .f32} {harg5 : arg5.IsWhole}
variable {arg6 : Memref sig .tc .vmem S4x64x8x128 .f32} {harg6 : arg6.IsWhole} {arg7 : Memref sig .tc .vmem S4x8x128 .f32} {harg7 : arg7.IsWhole}
variable {O : FVec F S1 .f32} {M : FVec F S8 .f32} {H : FVec F S4x64x8x128 .f32} {V : FVec F S4x8x128 .f32}
variable {A B : ℕ → FVec F S1x512x512 .f32}

/-- A later visit of the second pass moves the invariant on. -/
theorem later_visit {n : ℕ} (h : Inv A B par (n + 5) M H V) {i : grid0.Coords} (hi : ¬isFirst i) (hr : row i = n + 1) (V' : FVec F S4x8x128 .f32) :
    Inv A B par (n + 6) (bnds i M V) (Hst (row i) H (par (bnds i M V) (A (n + 5)) (B (n + 5))) 32 0) V' := by
  obtain ⟨hM, H0, rfl⟩ := h
  have hb : bnds i M V = M := if_neg hi
  rw [hb, hr]
  refine ⟨hM, H0, ?_⟩
  show _ = Hst (n + 1) (filled (visit A B par) H0 (n + 1)) (visit A B par (n + 1)) 32 0
  refine congrArg (fun P => Hst (n + 1) (filled (visit A B par) H0 (n + 1)) P 32 0) ?_
  rw [show n + 5 = 4 + (n + 1) by omega]
  exact mkPar_congr hM _ _

/-- The first visit of the second pass. -/
theorem first_visit (h : Inv A B par 4 M H V) {i : grid0.Coords} (hi : isFirst i) (hr : row i = 0) (V' : FVec F S4x8x128 .f32) :
    Inv A B par 5 (bnds i M V) (Hst (row i) H (par (bnds i M V) (A 4) (B 4)) 32 0) V' := by
  have hV : V = ends A B := h
  subst hV
  have hb : bnds i M (ends A B) = bounds (ends A B) M 4 := if_pos hi
  rw [hb, hr]
  have hM : ∀ k < 4, bound (bounds (ends A B) M 4) k = bound (bounds (ends A B) blank 4) k := fun k hk => by
    rw [bound_all _ _ _ hk, bound_all _ _ _ hk]
  refine ⟨hM, H, ?_⟩
  show _ = Hst 0 H (visit A B par 0) 32 0
  exact congrArg (fun P => Hst 0 H P 32 0) (mkPar_congr hM _ _)

/-- What the result buffer holds after point `n`. -/
def outAfter (A B : ℕ → FVec F S1x512x512 .f32) (n : ℕ) (O : FVec F S1 .f32) : FVec F S1 .f32 :=
  if n = 7 then fun _ => miOf (done A B par) else O

/-- The body at one point of the grid. -/
theorem point (t : Fin grid0.N) (hI : Inv A B par t.val M H V) (Q : PUnit → sProp (MT nD τ sig Unit (Elt F) ℕ U ℕ))
    (hk : ∀ O' M' H' V', Inv A B par (t.val + 1) M' H' V' → O' = outAfter A B t.val O →
      ((Own (c : Thread nD τ) arg2 arg3 arg4 arg5 arg6 arg7 (A t.val) (B t.val) O' M' H' V' : sProp 𝕄) ⊢ Q ⟨⟩)) :
    (Own (c : Thread nD τ) arg2 arg3 arg4 arg5 arg6 arg7 (A t.val) (B t.val) O M H V : sProp 𝕄) ⊢
      wp frame (wpE D 𝒱 c bd) E (cc0__body (grid0.coords t) arg2 harg2 arg3 harg3 arg4 harg4 arg5 harg5 arg6 harg6 arg7 harg7) Q := by
  rcases fin_N0 t with rfl | rfl | rfl | rfl | rfl | rfl | rfl | rfl
  · exact run_first (by decide) (by decide) (by decide) (by decide) Q (hk _ _ _ _ (planes_indep _ _ _) rfl)
  · have hV : V = seen A B blank 0 := hI
    exact run_later (by decide) (by decide) (by decide) (by decide) Q (hk _ _ _ _ (by rw [hV]; rfl) rfl)
  · have hV : V = seen A B blank 1 := hI
    exact run_later (by decide) (by decide) (by decide) (by decide) Q (hk _ _ _ _ (by rw [hV]; rfl) rfl)
  · have hV : V = seen A B blank 2 := hI
    exact run_later (by decide) (by decide) (by decide) (by decide) Q (hk _ _ _ _ (by rw [hV]; rfl) rfl)
  · exact run_second (by decide) (by decide) Q fun M' hM' H' hH' => hk _ _ _ _
      (by subst hM' hH'; exact first_visit hI (by decide) (by decide) _) (if_neg (by decide))
  · exact run_second (by decide) (by decide) Q fun M' hM' H' hH' => hk _ _ _ _
      (by subst hM' hH'; exact later_visit (n := 0) hI (i := grid0.coords t0_5) (by decide) (by decide) _) (if_neg (by decide))
  · exact run_second (by decide) (by decide) Q fun M' hM' H' hH' => hk _ _ _ _
      (by subst hM' hH'; exact later_visit (n := 1) hI (i := grid0.coords t0_6) (by decide) (by decide) _) (if_neg (by decide))
  · have key : ∀ M' : FVec F S8 .f32, M' = bnds (grid0.coords t0_7) M V → ∀ H', H' = Hst (row (grid0.coords t0_7)) H (par M' (A 7) (B 7)) 32 0 →
        Inv A B par 8 M' H' V := fun M' hM' H' hH' => by
      subst hM' hH'; exact later_visit (n := 2) hI (i := grid0.coords t0_7) (by decide) (by decide) _
    refine run_second (by decide) (by decide) Q fun M' hM' H' hH' => hk _ _ _ _ (key M' hM' H' hH') ?_
    obtain ⟨-, H0, hf⟩ := key M' hM' H' hH'
    rw [if_pos (by decide), show outAfter A B t0_7.val O = fun _ => miOf (done A B par) from if_pos rfl, hf]
    exact congrArg (fun h => fun _ => miOf h) (filled_indep _ _ _)

end Cert.KernelIdeal.Run
-- ==== Proof.Launch.lean ====
/- The whole launch: what the pipeline holds between points, the body at each point, and the run of the program. -/
module

public import proofs.«01_k».proof.Proof.Point
public import proofs.«01_k».proof.Proof.Gen.KernelIdeal.Frame

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MI Cert.KernelIdeal.Gen

attribute [local irreducible] wp Own

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Point `n` of the grid, counted round. -/
def pt (n : ℕ) : Fin cfg0.N := ⟨n % 8, by rw [show cfg0.N = 8 from N_0]; exact Nat.mod_lt _ (by norm_num)⟩

/-- A point of the grid is the point of its number. -/
theorem pt_val (t : Fin cfg0.N) : pt t.val = t := Fin.ext (Nat.mod_eq_of_lt (lt_of_lt_of_eq t.isLt N_0))

/-- The blocks of the two images at point `n`. -/
def blkA (c : Dev nD) (n : ℕ) : FVec F S1x512x512 .f32 := iblk m c 0 (pt n)
def blkB (c : Dev nD) (n : ℕ) : FVec F S1x512x512 .f32 := iblk m c 1 (pt n)

/-- The result. -/
def resultOf (c : Dev nD) : F .f32 := miOf (done (blkA m c) (blkB m c) par)

/-- What the pipeline holds before point `n` besides the staging buffers. -/
def held (c : Dev nD) (n : ℕ) : sProp 𝕄 :=
  iprop((∃ M H V, ⌜Inv (blkA m c) (blkB m c) par n M H V⌝ ∗ owns (c : Thread nD τ) (Memref.whole cc0_scratch0) fullShare M
    ∗ owns (c : Thread nD τ) (Memref.whole cc0_scratch1) fullShare H ∗ owns (c : Thread nD τ) (Memref.whole cc0_scratch2) fullShare V)
    ∗ ∃ r, prngReg c r)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun _ => resultOf m c
  Φ t := held m c t.val
  q _ := fullShare
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = blkA m c t.val := by
  unfold blkA; rw [pt_val]
  exact before0_0_of m (dats m 0 c) (A_eq m c 0) (fun t => by dsimp only [dats]) t d
theorem before1 (c : Dev nD) (t : Fin cfg0.N) (d) : (dats m 0 c).before 1 t d = blkB m c t.val := by
  unfold blkB; rw [pt_val]
  exact before0_1_of m (dats m 0 c) (A_eq m c 1) (fun t => by dsimp only [dats]) t d
theorem after0 (c : Dev nD) (t : Fin cfg0.N) : (dats m 0 c).after 0 t = blkA m c t.val := by
  unfold blkA; rw [pt_val]; dsimp only [dats]
theorem after1 (c : Dev nD) (t : Fin cfg0.N) : (dats m 0 c).after 1 t = blkB m c t.val := by
  unfold blkB; rw [pt_val]; dsimp only [dats]

/-- What the body leaves in the result's buffer is what the pipeline asks for there. -/
theorem out_post (c : Dev nD) (t : Fin cfg0.N) (d) :
    (owns (c : Thread nD τ) (st0_2 t) fullShare (outAfter (blkA m c) (blkB m c) t.val ((dats m 0 c).before 2 t d)) : sProp 𝕄) ⊢
      (match cfg0.idle 2 (cfg0.grid.coords t) with
        | true =>
          match (cfg0.win 2).flush t with
          | false => iprop(∃ d, owns (c : Thread nD τ) ((cfg0.win 2).stage (cfg0.slots t 2)) fullShare ((dats m 0 c).before 2 t d))
          | true => owns (c : Thread nD τ) ((cfg0.win 2).stage (cfg0.slots t 2)) fullShare ((dats m 0 c).after 2 t)
        | false => owns (c : Thread nD τ) ((cfg0.win 2).stage (cfg0.slots t 2)) fullShare ((dats m 0 c).after 2 t)) := by
  by_cases h7 : t.val = 7
  · have hi : cfg0.idle 2 (cfg0.grid.coords t) = false := by
      obtain rfl : t = t0_7 := Fin.ext h7
      decide
    rw [hi]
    unfold outAfter
    rw [if_pos h7]
    exact .rfl
  · have hi : cfg0.idle 2 (cfg0.grid.coords t) = true := by
      rcases fin_N0 t with rfl | rfl | rfl | rfl | rfl | rfl | rfl | rfl
      · decide
      · decide
      · decide
      · decide
      · decide
      · decide
      · decide
      · exact absurd rfl h7
    have hf : (cfg0.win 2).flush t = false := by
      rw [← Bool.not_eq_true, flush0_2]
      have := lt_of_lt_of_eq t.isLt N_0
      omega
    rw [hi, hf]
    unfold outAfter
    rw [if_neg h7]
    iintro H
    iexists d
    iexact H

theorem defs₀_row (t : Fin cfg0.N) : defs₀ (F := F) .tc cfg0.body (cfg0.bodyArgs t (cfg0.slots t)) = bodyAt0 t := by
  unfold defs₀; rw [Defs.onTc_tc]

/-- The body at a point, from the buffers it works on. -/
theorem body_at (c : Dev nD) (t : Fin cfg0.N) {M : FVec F S8 .f32} {H : FVec F S4x64x8x128 .f32} {W : FVec F S4x8x128 .f32} (O : FVec F S1 .f32)
    (hI : Inv (blkA m c) (blkB m c) par t.val M H W) :
    (iprop(owns (c : Thread nD τ) (st0_0 t) fullShare (blkA m c t.val) ∗ owns (c : Thread nD τ) (st0_1 t) fullShare (blkB m c t.val)
      ∗ owns (c : Thread nD τ) (st0_2 t) fullShare O ∗ owns (c : Thread nD τ) (Memref.whole cc0_scratch0) fullShare M
      ∗ owns (c : Thread nD τ) (Memref.whole cc0_scratch1) fullShare H ∗ owns (c : Thread nD τ) (Memref.whole cc0_scratch2) fullShare W) : sProp 𝕄) ⊢
      wp Idealize.ShloMosaic.frame (wpE (defs₀ (F := F)) Variants.none c none) Set.univ (bodyAt0 t) fun _ =>
        iprop((∃ M H V, ⌜Inv (blkA m c) (blkB m c) par (t.val + 1) M H V⌝ ∗ owns (c : Thread nD τ) (Memref.whole cc0_scratch0) fullShare M
          ∗ owns (c : Thread nD τ) (Memref.whole cc0_scratch1) fullShare H ∗ owns (c : Thread nD τ) (Memref.whole cc0_scratch2) fullShare V)
        ∗ owns (c : Thread nD τ) (st0_0 t) fullShare (blkA m c t.val) ∗ owns (c : Thread nD τ) (st0_1 t) fullShare (blkB m c t.val)
        ∗ owns (c : Thread nD τ) (st0_2 t) fullShare (outAfter (blkA m c) (blkB m c) t.val O)) := by
  rw [← own2]
  refine point (D := defs₀ (F := F)) (A := blkA m c) (B := blkB m c) t hI _ fun O' M' H' V' hI' hO => ?_
  subst hO
  rw [own2]
  iintro ⟨H0, H1, H2, HM, HH, HV⟩
  isplitl [HM HH HV]
  · iexists M', H', V'
    isplitr
    · ipureintro; exact hI'
    isplitl [HM]; · iexact HM
    isplitl [HH]; · iexact HH
    iexact HV
  isplitl [H0]; · iexact H0
  isplitl [H1]; · iexact H1
  iexact H2

/-- The body at each point keeps what the launch holds between points. -/
theorem body_obligation (c : Dev nD) : BodyObligation (dats m 0 c) (defs₀ (F := F)) Variants.none () Set.univ := fun t => by
  rw [bigSep_W0, bigSep_W0, defs₀_row]
  simp only [before0, before1, after0, after1]
  rw [show (dats m 0 c).Φ t.castSucc = held m c t.val from rfl, show (dats m 0 c).Φ t.succ = held m c (t.val + 1) from rfl,
    show (dats m 0 c).owesAt () t.succ = (dats m 0 c).owesAt () t.castSucc from rfl]
  unfold held
  iintro ⟨⟨⟨%M, %H, %W, %hI, HM, HH, HV⟩, Hg⟩, Ho, ⟨%d0, H0⟩, ⟨%d1, H1⟩, ⟨%d2, H2⟩⟩
  iapply (wp_wand_r _ _ _)
  isplitl [H0 H1 H2 HM HH HV]
  · iapply (body_at m c t _ hI)
    isplitl [H0]; · iexact H0
    isplitl [H1]; · iexact H1
    isplitl [H2]; · iexact H2
    isplitl [HM]; · iexact HM
    isplitl [HH]; · iexact HH
    iexact HV
  iintro %a ⟨HS, H0, H1, H2⟩
  isplitl [HS Hg]
  · isplitl [HS]; · iexact HS
    iexact Hg
  isplitl [Ho]; · iexact Ho
  isplitl [H0]; · iexact H0
  isplitl [H1]; · iexact H1
  iapply (out_post m c t d2)
  iexact H2

/-- The scratch buffers at the start hold anything. -/
theorem start_held (c : Dev nD) : (Pipeline.ΦA spec0 c : sProp 𝕄) ⊢ (dats m 0 c).Φ 0 := by
  rw [show (dats m 0 c).Φ 0 = held m c 0 from rfl]
  unfold Pipeline.ΦA held
  rw [scopedRest0_eq]
  simp only [owns_whole_eq]
  iintro ⟨⟨⟨%f1, H1⟩, ⟨%f2, H2⟩, ⟨%f0, H0⟩⟩, Hg⟩
  isplitl [H0 H1 H2]
  · iexists f0, f1, f2
    isplitr
    · ipureintro; trivial
    isplitl [H0]
    · iexists f0; isplitr; · ipureintro; rfl
      iexact H0
    isplitl [H1]
    · iexists f1; isplitr; · ipureintro; rfl
      iexact H1
    iexists f2; isplitr; · ipureintro; rfl
    iexact H2
  iexact Hg

/-- And at the end they are given back. -/
theorem end_held (c : Dev nD) : (dats m 0 c).Φ (Fin.last cfg0.N) ⊢ (Pipeline.ΦA spec0 c : sProp 𝕄) := by
  rw [show (dats m 0 c).Φ (Fin.last cfg0.N) = held m c cfg0.N from rfl]
  unfold Pipeline.ΦA held
  rw [scopedRest0_eq]
  simp only [owns_whole_eq]
  iintro ⟨⟨%M, %H, %W, -, ⟨%f0, -, H0⟩, ⟨%f1, -, H1⟩, ⟨%f2, -, H2⟩⟩, Hg⟩
  isplitl [H0 H1 H2]
  · isplitl [H1]; · iexists f1; iexact H1
    isplitl [H2]; · iexists f2; iexact H2
    iexists f0; iexact H0
  iexact Hg

set_option backward.isDefEq.respectTransparency.types false in
/-- The run of the program: every array ends at what the pipeline computes, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := start_held m) (hout := end_held m)

/-- The run leaves the arguments as they were and every counter at zero. -/
theorem run_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
        ((h.1 c).2 main_arg1 (Pipeline.mem_restRefs_of main_arg1 (by decide) (by decide))).trans (W_main_arg1 m (dats m) c)⟩, h.2⟩)
    (run_main m ρ)

end Cert.KernelIdeal.Run
-- ==== Proof.Frames.lean ====
/- The two kernels' runs leave the arguments as they were and every counter at zero. -/
module

public import proofs.«01_k».proof.Defs
public import proofs.«01_k».proof.Proof.Launch
public import proofs.«01_k».proof.Proof.K.Launch

@[expose] public section

noncomputable section

namespace Cert.Parts

open Idealize.ShloMosaic Idealize.ShloMosaic.TcCoe Idealize.SL.Sem

/-- The printed kernel's frame. -/
theorem frame_kernel : quiescent_Kernel := fun m g _ => Cert.Kernel.Run.run_kept m g

/-- The idealized kernel's frame. -/
theorem frame_ideal : quiescent_KernelIdeal := fun m g _ => Cert.KernelIdeal.Run.run_kept m g

end Cert.Parts
-- ==== Proof.Names.lean ====
/- The nine named constants of the idealized kernel, and the run of the reference. -/
module

public import proofs.«01_k».proof.Defs
public import proofs.«01_k».proof.Proof.Gen.ReferenceIdeal.Run
public import Idealize.ShloMosaic.Lib.Quiescent

@[expose] public section

noncomputable section

namespace Cert.Parts

open Idealize.ShloMosaic Idealize.ShloMosaic.TcCoe Idealize.SL.Sem

/-- Each named constant is read as its number in the idealized program and as its word in the printed one. -/
theorem preserves : preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl⟩

/-- The reference runs, leaves its arguments and ends with every counter at zero. -/
theorem frame_reference : quiescent_ReferenceIdeal := fun m g _ =>
  (θ_run Cert.ReferenceIdeal.defs _ _).mono (fun r h => ⟨fun c => (h c).2, sem_eq_zero_of_no_sems (by decide) r.2⟩)
    (Cert.ReferenceIdeal.Value.run m g)

end Cert.Parts
-- ==== Proof.Result.lean ====
/- What the run leaves in the result, and the blocks the kernel reads. -/
module

public import proofs.«01_k».proof.Proof.Launch
public import Idealize.ShloMosaic.Lib.Pipeline.ValueKit.Geometry
public import Idealize.ShloMosaic.Lib.StableHlo.Run

@[expose] public section

noncomputable section

namespace Cert.KernelIdeal.Run

open Idealize.ShloMosaic hiding ix0 ix1 ix2 ix3 ix4 ix5 ix6 eq_ix2
open Idealize.ShloMosaic.TcCoe Idealize.ShloMosaic.ValueIdx
open Idealize.SL Idealize.SL.Sem
open Idealize.ShloMosaic.StableHlo
open Idealize.ShloMosaic.Pipeline (Dat Cfg Window)
open Cert.MI Cert.KernelIdeal.Gen

variable {F : FTy → Type} [FloatOps F] [Named F]
variable (m : (ℓ : Loc nD τ sig) → Buf (Elt F) ℓ) (ρ : Dev nD → PrngReg)

/-- The kernel's output array at the end. -/
theorem final_out (c : Dev nD) : (dats m 0 c).arrAt 2 cfg0.N = fun _ => resultOf m c :=
  (dats m 0 c).arrAt_eq_of_after_last 2 t0_7 (by decide +kernel) _ fun j => rfl

/-- The result is that number. -/
theorem W_main_v3 (c : Dev nD) :
    Pipeline.afterTail₀ cfgs (dats m) 0 (V0 m) [hostOps1] c main_v3 = fun _ => resultOf m c := by
  unfold Pipeline.afterTail₀
  have h : ∀ U : Valuation τ sig (Elt F), StableHlo.after (List.flatten [hostOps1]) U (Proc.devRef .tc main_v3) =
      shapeCast S_ (U (Proc.devRef .tc main_v2)) shapeCasts_S1_S_ := by
    intro U
    simp only [hostOps1, List.flatten_cons, List.flatten_nil, List.append_nil]
    after_results_simp
    rfl
  rw [h]
  have e := Pipeline.withArrays_arr spec0 (by decide) c (V0 m c) (fun w => (dats m 0 c).arrAt w cfg0.N) 2
  funext x
  refine (congrFun (congrArg (fun y => shapeCast S_ y shapeCasts_S1_S_) (e.trans (final_out m c))) x).trans rfl

/-- The run with its result. -/
theorem run_value : θ_run defs (onTc (τ := τ) (main (F := F))) ⟨m, fun _ => 0, ρ⟩ (fun r => ∀ c : Dev nD,
      r.2.mem ((c.tc : Thread nD τ).loc main_v3) = (fun _ => resultOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h.1 c).2 main_v3 (Pipeline.mem_restRefs_of main_v3 (by decide) (by decide))).trans (W_main_v3 m c),
        ((h.1 c).2 main_arg0 (Pipeline.mem_restRefs_of main_arg0 (by decide) (by decide))).trans (W_main_arg0 m (dats m) c),
        ((h.1 c).2 main_arg1 (Pipeline.mem_restRefs_of main_arg1 (by decide) (by decide))).trans (W_main_arg1 m (dats m) c)⟩)
    (run_main m ρ)

/-- The kernel's operands are the arguments with the second axis dropped. -/
theorem V_main_v0 (c : Dev nD) : V m c main_v0 = shapeCast S4x512x512 (m ((c : Thread nD τ).loc main_arg0)) shapeCasts_S4x1x512x512_S4x512x512 := by
  show StableHlo.after (List.flatten [hostOps0]) (fun b => m (c, b)) (Proc.devRef .tc main_v0) = _
  simp only [hostOps0, List.flatten_cons, List.flatten_nil, List.append_nil]
  after_results_simp
  rfl

/-- The second image as the launch finds it. -/
theorem V_main_v1 (c : Dev nD) : V m c main_v1 = shapeCast S4x512x512 (m ((c : Thread nD τ).loc main_arg1)) shapeCasts_S4x1x512x512_S4x512x512 := by
  show StableHlo.after (List.flatten [hostOps0]) (fun b => m (c, b)) (Proc.devRef .tc main_v1) = _
  simp only [hostOps0, List.flatten_cons, List.flatten_nil, List.append_nil]
  after_results_simp
  rfl

/-- Which image a point of the grid reads. -/
theorem index_first : ∀ t : Fin cfg0.N, win0_0.index t = ![t.val % 4, 0, 0] := (by decide +kernel : ∀ t : Fin grid0.N, _)
theorem index_second : ∀ t : Fin cfg0.N, win0_1.index t = ![t.val % 4, 0, 0] := (by decide +kernel : ∀ t : Fin grid0.N, _)

/-- The place in the argument of a pixel of the block read at point `n`. -/
def spot (n : ℕ) (x : S1x512x512.Idx) : S4x1x512x512.Idx :=
  ix4 (⟨n % 4, Nat.mod_lt _ (by norm_num)⟩ : Fin 4) (0 : Fin 1) (x 1) (x 2)

/-- The reshape drops the axis of length one. -/
theorem drop_axis {α : Type} (X : S4x1x512x512.Idx → α) (k : Fin 4) (a b : Fin 512) :
    shapeCast S4x512x512 X shapeCasts_S4x1x512x512_S4x512x512 (ix3 k a b) = X (ix4 k (0 : Fin 1) a b) := by
  refine congrArg X (Shape.reshapeEquiv_eq_of_rowMajor _ ?_)
  rw [Shape.rowMajor_val_four, Shape.rowMajor_val_three]
  show ((k.val * 1 + 0) * 512 + a.val) * 512 + b.val = (k.val * 512 + a.val) * 512 + b.val
  omega

/-- A block of the first image, read at a pixel. -/
theorem blkA_apply (c : Dev nD) (n : ℕ) (x : S1x512x512.Idx) : blkA m c n x = m ((c : Thread nD τ).loc main_arg0) (spot n x) := by
  have h0 : (x 0).val = 0 := Nat.lt_one_iff.mp (x 0).isLt
  have e : ((cfg0.win 0).blk (pt n)).view.emb x = (ix3 (⟨n % 4, Nat.mod_lt _ (by norm_num)⟩ : Fin 4) (x 1) (x 2) : S4x512x512.Idx) := by
    have hp : (pt n).val = n % 8 := rfl
    blk_ext [index_first, hp]
  refine Eq.trans (congrArg (V m c main_v0) e) ?_
  rw [V_main_v0]
  exact drop_axis _ _ _ _

/-- A block of the second image, read at a pixel. -/
theorem blkB_apply (c : Dev nD) (n : ℕ) (x : S1x512x512.Idx) : blkB m c n x = m ((c : Thread nD τ).loc main_arg1) (spot n x) := by
  have h0 : (x 0).val = 0 := Nat.lt_one_iff.mp (x 0).isLt
  have e : ((cfg0.win 1).blk (pt n)).view.emb x = (ix3 (⟨n % 4, Nat.mod_lt _ (by norm_num)⟩ : Fin 4) (x 1) (x 2) : S4x512x512.Idx) := by
    have hp : (pt n).val = n % 8 := rfl
    blk_ext [index_second, hp]
  refine Eq.trans (congrArg (V m c main_v1) e) ?_
  rw [V_main_v1]
  exact drop_axis _ _ _ _

end Cert.KernelIdeal.Run
-- ==== Proof.Info.lean ====
/- The mutual information of four histograms, and that the kernel's last step computes it. -/
module

public import proofs.«01_k».proof.Proof.Total

@[expose] public section

noncomputable section

namespace Cert.MI

open Idealize.ShloMosaic hiding ix0 ix1 ix2 ix3 ix4 ix5 ix6 eq_ix2
open Idealize.ShloMosaic.ValueIdx

/-- The small number added to each divisor. -/
abbrev small : EReal := Ideal.ofBits .f32 0x34000000#32

/-- Each histogram over its own sum. -/
def chance (h : Fin 4 → Fin 64 → EReal) (i : Fin 4) (j : Fin 64) : EReal := Ideal.div (h i j) ((∑ k, h i k) + small)

/-- One term of the mutual information. -/
def share (p : Fin 4 → Fin 64 → EReal) (i : Fin 4) (j : Fin 64) : EReal :=
  p i j * Ideal.log (Ideal.div (p i j + small) ((∑ k, p i k) * (∑ k, p k j) + small) + small)

/-- The mutual information. -/
def info (h : Fin 4 → Fin 64 → EReal) : EReal := ∑ i, ∑ j, share (chance h) i j

variable (H : FVec Ideal T4x64x8x128 .f32)

/-- A histogram divided by its sum, read at a bin. -/
theorem prob_apply (i : Fin 4) (j : Fin 64) : (prob H (ix2 i j) : EReal) = chance (fun i j => hist H (ix2 i j)) i j := by
  unfold prob chance
  generalize hist H = h
  simp only [pointwise]
  rfl

/-- One term of the mutual information, read at a bin. -/
theorem terms_apply (i : Fin 4) (j : Fin 64) : (terms H (ix2 i j) : EReal) = share (fun i j => prob H (ix2 i j)) i j := by
  unfold terms marg share
  generalize prob H = p
  simp only [pointwise]
  rfl

/-- The kernel's last step is the mutual information of the histograms in its buffer. -/
theorem miOf_eq : (miOf H : EReal) = info fun i j => hist H (ix2 i j) := by
  have e : (fun i j => chance (fun i j => hist H (ix2 i j)) i j) = fun i j => (prob H (ix2 i j) : EReal) := by
    funext i j; exact (prob_apply H i j).symm
  have e' : info (fun i j => hist H (ix2 i j)) = ∑ i : Fin 4, ∑ j : Fin 64, (terms H (ix2 i j) : EReal) := by
    unfold info
    refine Finset.sum_congr rfl fun i _ => Finset.sum_congr rfl fun j _ => ?_
    rw [terms_apply]
    exact congrArg (fun p => share p i j) e
  rw [e']
  unfold miOf
  generalize terms H = t
  simp only [pointwise]
  rfl

end Cert.MI
-- ==== Proof.Range.lean ====
/- Normalising an image at the extended reals: whatever the pixels are, the normalised pixel is a real number, and the
   kernel's way to it (the bounds and the pixel over the range apart) gives the same one. -/
module

public import proofs.«01_k».proof.Proof.Extremes

@[expose] public section

noncomputable section

namespace Cert.MI

open Idealize.ShloMosaic hiding ix1 ix2 ix3 ix4 ix5 ix6 eq_ix2
open Idealize.ShloMosaic.ValueIdx

/-- `mn` is the least and `mx` the greatest of the pixels `X`. -/
structure Extreme {ι : Type} (X : ι → EReal) (mn mx : EReal) : Prop where
  le : ∀ z, z ≤ mn ↔ ∀ x, z ≤ X x
  ge : ∀ z, mx ≤ z ↔ ∀ x, X x ≤ z

/-- The least and the greatest are unique. -/
theorem Extreme.unique {ι : Type} {X : ι → EReal} {mn mx mn' mx' : EReal} (h : Extreme X mn mx) (h' : Extreme X mn' mx') :
    mn = mn' ∧ mx = mx' :=
  ⟨le_antisymm ((h'.le _).2 ((h.le _).1 le_rfl)) ((h.le _).2 ((h'.le _).1 le_rfl)),
    le_antisymm ((h.ge _).2 ((h'.ge _).1 le_rfl)) ((h'.ge _).2 ((h.ge _).1 le_rfl))⟩

/-- The word added to the range. -/
def epsr : ℝ := 1 / 8388608

/-- The epsilon, as a real number. -/
theorem eps_word : Ideal.ofBits .f32 0x34000000#32 = ((epsr : ℝ) : EReal) := by
  unfold epsr
  simp [Ideal.ofBits, Ideal.ieee, -EReal.coe_mul]; norm_num

/-- The word of one. -/
theorem one_word : Ideal.ofBits .f32 0x3F800000#32 = 1 := by
  rw [← EReal.coe_one]
  simp [Ideal.ofBits, Ideal.ieee, -EReal.coe_mul, -EReal.coe_one]; norm_num

/-- The range. -/
def range (mn mx : EReal) : EReal := mx - mn + (epsr : EReal)

/-- An image with a pixel that is not finite has an infinite range. -/
theorem range_inf {mn mx : EReal} (h : mn = ⊥ ∨ mx = ⊤) (h' : mn ≤ mx) : range mn mx = ⊤ ∨ range mn mx = ⊥ := by
  unfold range
  rcases h with rfl | rfl
  · induction mx with
    | bot => right; simp
    | coe x => left; simp
    | top => left; simp
  · induction mn with
    | bot => left; simp
    | coe x => left; simp
    | top => right; simp

/-- Normalised pixels are real numbers, and the kernel's two products are those of them. -/
theorem normal {ι : Type} [Finite ι] [Nonempty ι] {X : ι → EReal} {mn mx : EReal} (h : Extreme X mn mx) :
    ∃ (f : ι → ℝ) (m : ℝ), mn * Ideal.div 1 (range mn mx) = (m : EReal) ∧
      (∀ x, X x * (((1 / 2 : ℝ) : EReal) * Ideal.div 1 (range mn mx)) = (((f x + m) / 2 : ℝ) : EReal)) ∧
      ∀ x, Ideal.div (X x - mn) (range mn mx) = (f x : EReal) := by
  obtain ⟨x0, h0⟩ := Finite.exists_min X
  obtain ⟨x1, h1⟩ := Finite.exists_max X
  have e0 : mn = X x0 := le_antisymm ((h.le _).1 le_rfl x0) ((h.le _).2 h0)
  have e1 : mx = X x1 := le_antisymm ((h.ge _).2 h1) ((h.ge _).1 le_rfl x1)
  have hle : mn ≤ mx := by rw [e0, e1]; exact h0 x1
  by_cases hf : mn = ⊥ ∨ mx = ⊤
  · have hinv : ∀ a, Ideal.div a (range mn mx) = 0 := by
      intro a
      unfold Ideal.div
      rcases range_inf hf hle with hr | hr <;> rw [hr] <;> simp
    refine ⟨fun _ => 0, 0, ?_, fun x => ?_, fun x => ?_⟩
    · rw [hinv]; simp
    · rw [hinv]; simp
    · rw [hinv]; simp
  · push Not at hf
    have hb : mn ≠ ⊤ := fun e => hf.2 (top_le_iff.1 (e ▸ hle))
    have ht : mx ≠ ⊥ := fun e => hf.1 (le_bot_iff.1 (e ▸ hle))
    obtain ⟨a, ha⟩ : ∃ a : ℝ, mn = a := ⟨mn.toReal, (EReal.coe_toReal hb hf.1).symm⟩
    obtain ⟨b, hb'⟩ : ∃ b : ℝ, mx = b := ⟨mx.toReal, (EReal.coe_toReal hf.2 ht).symm⟩
    have hX : ∀ x, ∃ g : ℝ, X x = g := fun x =>
      ⟨(X x).toReal, (EReal.coe_toReal (fun e => hf.2 (top_le_iff.1 (e ▸ (h.ge mx).1 le_rfl x)))
        (fun e => hf.1 (le_bot_iff.1 (e ▸ (h.le mn).1 le_rfl x)))).symm⟩
    choose g hg using hX
    have hab : a ≤ b := by rw [ha, hb'] at hle; exact_mod_cast hle
    have hpos : 0 < b - a + epsr := by unfold epsr; linarith [show (0 : ℝ) < 1 / 8388608 by norm_num]
    have hr : range mn mx = ((b - a + epsr : ℝ) : EReal) := by unfold range; rw [ha, hb']; norm_cast
    have hdiv : ∀ y : ℝ, Ideal.div (y : EReal) (range mn mx) = ((y * (b - a + epsr)⁻¹ : ℝ) : EReal) := by
      intro y
      unfold Ideal.div
      rw [hr, if_neg (by exact_mod_cast hpos.ne'), ← EReal.coe_inv, ← EReal.coe_mul]
    have hone : Ideal.div 1 (range mn mx) = (((b - a + epsr)⁻¹ : ℝ) : EReal) := by
      have := hdiv 1
      rw [one_mul] at this
      exact_mod_cast this
    refine ⟨fun x => (g x - a) * (b - a + epsr)⁻¹, a * (b - a + epsr)⁻¹, ?_, fun x => ?_, fun x => ?_⟩
    · rw [hone, ha]; norm_cast
    · rw [hone, hg]; norm_cast; ring
    · rw [hg, ha, ← hdiv, ha]; norm_cast

end Cert.MI
-- ==== Proof.Value.lean ====
/- The kernel's histograms: each bin is the number of pixels' share of the summed weights. -/
module

public import proofs.«01_k».proof.Proof.Range
public import proofs.«01_k».proof.Proof.State

@[expose] public section

noncomputable section

namespace Cert.MI

open Idealize.ShloMosaic hiding ix1 ix2 ix3 ix4 ix5 ix6 eq_ix2
open Idealize.ShloMosaic.ValueIdx

/-- The four blocks of an image, as one family of pixels. -/
def pixels (A : ℕ → FVec Ideal T1x512x512 .f32) (p : Fin 4 × T1x512x512.Idx) : EReal := A p.1.val p.2

/-- What holds at every index of every block holds at every pixel. -/
theorem forall_pixels {A : ℕ → FVec Ideal T1x512x512 .f32} {p : EReal → Prop} :
    (∀ j ≤ 3, ∀ x, p (A j x)) ↔ ∀ q, p (pixels A q) :=
  ⟨fun h q => h q.1.val (by have := q.1.isLt; omega) q.2, fun h j hj x => h (⟨j, by omega⟩, x)⟩

instance : Nonempty (Fin 4 × T1x512x512.Idx) := ⟨(0, ix3 0 0 0)⟩

variable (A B : ℕ → FVec Ideal T1x512x512 .f32)

/-- The bounds the kernel finds are the extremes of the two images. -/
theorem extreme_first : Extreme (pixels A) (pick (ends A B) 0) (pick (ends A B) 1) where
  le z := (le_least z _ 0).trans ((le_seen_0 A B blank z 3).trans (forall_pixels (p := (z ≤ ·))))
  ge z := (greatest_le z _ 1).trans ((seen_le_1 A B blank z 3).trans (forall_pixels (p := (· ≤ z))))

/-- The second image's bounds. -/
theorem extreme_second : Extreme (pixels B) (pick (ends A B) 2) (pick (ends A B) 3) where
  le z := (le_least z _ 2).trans ((le_seen_2 A B blank z 3).trans (forall_pixels (p := (z ≤ ·))))
  ge z := (greatest_le z _ 3).trans ((seen_le_3 A B blank z 3).trans (forall_pixels (p := (· ≤ z))))

/-- One over the range, as the kernel has it. -/
theorem inv_range (mn mx : EReal) : Scalar.divf (Scalar.ofBits .f32 0x3F800000#32 : Ideal .f32)
    (Scalar.addf (Scalar.subf (mx : Ideal .f32) mn) (Scalar.ofBits .f32 0x34000000#32)) = Ideal.div 1 (range mn mx) := by
  show Ideal.div (Ideal.ofBits .f32 0x3F800000#32) (mx - mn + Ideal.ofBits .f32 0x34000000#32) = _
  rw [one_word, eps_word]; rfl

section Fields
variable {kq sqk dlt2 dltsq dltsq2 cb0 cb16 cb32 cb48 : Ideal .f32} (M : FVec Ideal T8 .f32) (X1 X2 : FVec Ideal T1x512x512 .f32)

theorem mkPar_mn1 : (mkPar kq sqk dlt2 dltsq dltsq2 cb0 cb16 cb32 cb48 M X1 X2).mn1 = bound M 0 := rfl
theorem mkPar_mn2 : (mkPar kq sqk dlt2 dltsq dltsq2 cb0 cb16 cb32 cb48 M X1 X2).mn2 = bound M 2 := rfl
theorem mkPar_X1 : (mkPar kq sqk dlt2 dltsq dltsq2 cb0 cb16 cb32 cb48 M X1 X2).X1 = X1 := rfl
theorem mkPar_X2 : (mkPar kq sqk dlt2 dltsq dltsq2 cb0 cb16 cb32 cb48 M X1 X2).X2 = X2 := rfl
theorem mkPar_inv1 : (mkPar kq sqk dlt2 dltsq dltsq2 cb0 cb16 cb32 cb48 M X1 X2).inv1 = Ideal.div 1 (range (bound M 0) (bound M 1)) :=
  inv_range _ _
theorem mkPar_inv2 : (mkPar kq sqk dlt2 dltsq dltsq2 cb0 cb16 cb32 cb48 M X1 X2).inv2 = Ideal.div 1 (range (bound M 2) (bound M 3)) :=
  inv_range _ _

end Fields

/-- The kernel's histograms, given its constants: with the normalised pixels `f` and `g` of the two images. -/
theorem hist_done {kq sqk dlt2 dltsq dltsq2 cb0 cb16 cb32 cb48 : EReal} {mn1 mx1 mn2 mx2 : EReal}
    (hc : ∀ M X1 X2, Consts (mkPar (F := Ideal) kq sqk dlt2 dltsq dltsq2 cb0 cb16 cb32 cb48 M X1 X2))
    (hA : ∀ k < 4, A (4 + k) = A k) (hB : ∀ k < 4, B (4 + k) = B k)
    (h1 : Extreme (pixels A) mn1 mx1) (h2 : Extreme (pixels B) mn2 mx2) :
    ∃ f g : Fin 4 × T1x512x512.Idx → ℝ,
      (∀ p, Ideal.div (pixels A p - mn1) (range mn1 mx1) = (f p : EReal)) ∧
      (∀ p, Ideal.div (pixels B p - mn2) (range mn2 mx2) = (g p : EReal)) ∧
      ∀ (i : Fin 4) (j : Fin 64), hist (done A B (mkPar (F := Ideal) kq sqk dlt2 dltsq dltsq2 cb0 cb16 cb32 cb48)) (ix2 i j) =
        total (fun x => ((weight (f (i, x)) (g (i, x)) j.val : ℝ) : EReal)) * Ideal.ofBits .f32 0x35800000#32 := by
  have e1 := h1.unique (extreme_first A B)
  have e2 := h2.unique (extreme_second A B)
  rw [e1.1, e1.2] at h1 ⊢
  rw [e2.1, e2.2] at h2 ⊢
  obtain ⟨f, m1, hm1, hp1, hf⟩ := normal h1
  obtain ⟨g, m2, hm2, hp2, hg⟩ := normal h2
  refine ⟨f, g, hf, hg, fun i j => ?_⟩
  rw [hist_apply]
  refine congrArg (· * _) ?_
  rw [← acc_total (P := visit A B (mkPar (F := Ideal) kq sqk dlt2 dltsq dltsq2 cb0 cb16 cb32 cb48) i.val) (n := j.val)]
  · refine Finset.sum_congr rfl fun b _ => Finset.sum_congr rfl fun a _ => ?_
    unfold done
    rw [filled_apply]
    exact if_pos i.isLt
  · intro k y
    refine exp2_expo (m1 := m1) (m2 := m2) (f1 := fun x => f (i, x)) (f2 := fun x => g (i, x)) (hc _ _ _) ⟨?_, fun x => ?_⟩ ⟨?_, fun x => ?_⟩ k j.val j.isLt y
    · rw [mkPar_mn1, mkPar_inv1, bound_all _ _ 0 (by norm_num), bound_all _ _ 1 (by norm_num), hm1]
    · rw [mkPar_X1, mkPar_inv1, bound_all _ _ 0 (by norm_num), bound_all _ _ 1 (by norm_num), hA _ i.isLt]
      exact hp1 (i, x)
    · rw [mkPar_mn2, mkPar_inv2, bound_all _ _ 2 (by norm_num), bound_all _ _ 3 (by norm_num), hm2]
    · rw [mkPar_X2, mkPar_inv2, bound_all _ _ 2 (by norm_num), bound_all _ _ 3 (by norm_num), hB _ i.isLt]
      exact hp2 (i, x)

end Cert.MI
-- ==== Proof.Refer.lean ====
/- The reference at the extended reals: the bounds of an image and its normalised pixels. -/
module

public import proofs.«01_k».proof.Proof.Value
public import proofs.«01_k».proof.Proof.Gen.ReferenceIdeal.Run

@[expose] public section

noncomputable section

namespace Cert.ReferenceIdeal.Value

open Idealize.ShloMosaic hiding ix0 ix1 ix2 ix3 ix4 ix5 ix6 eq_ix2
open Idealize.ShloMosaic.ValueIdx Cert.MI
open Cert.ReferenceIdeal Cert.ReferenceIdeal.Gen

/-- The four images of an argument, as blocks. -/
def image (X : FVec Ideal S4x1x512x512 .f32) (k : ℕ) : FVec Ideal T1x512x512 .f32 := fun x =>
  X (ix4 (⟨k % 4, Nat.mod_lt _ (by norm_num)⟩ : Fin 4) (0 : Fin 1) (x 1) (x 2))

/-- The pixel of a block that place `r` of a flat image is. -/
def place (r : Fin 262144) : T1x512x512.Idx :=
  ix3 (0 : Fin 1) (⟨r.val / 512, by omega⟩ : Fin 512) (⟨r.val % 512, Nat.mod_lt _ (by norm_num)⟩ : Fin 512)

/-- A flat position names a pixel. -/
theorem place_pixel (h w : Fin 512) : place ⟨512 * h.val + w.val, by omega⟩ = ix3 (0 : Fin 1) h w := by
  unfold place
  congr 1
  · apply Fin.ext; show (512 * h.val + w.val) / 512 = h.val; omega
  · apply Fin.ext; show (512 * h.val + w.val) % 512 = w.val; omega

/-- The flattened image read at a position. -/
theorem flat_apply (X : FVec Ideal S4x1x512x512 .f32) (i : Fin 4) (r : Fin 262144) :
    shapeCast S4x1x262144 X shapeCasts_S4x1x512x512_S4x1x262144 (ix3 i (0 : Fin 1) r) = image X i.val (place r) := by
  refine congrArg X (Shape.reshapeEquiv_eq_of_rowMajor _ ?_)
  rw [Shape.rowMajor_val_four, Shape.rowMajor_val_three]
  show (((i.val % 4) * 1 + 0) * 512 + r.val / 512) * 512 + r.val % 512 = (i.val * 1 + 0) * 262144 + r.val
  omega

/-- What holds at every pixel holds at every flat position. -/
theorem forall_flat {X : FVec Ideal S4x1x512x512 .f32} {p : EReal → Prop} :
    (∀ x, p (shapeCast S4x1x262144 X shapeCasts_S4x1x512x512_S4x1x262144 x)) ↔ ∀ q, p (pixels (image X) q) := by
  constructor
  · rintro h ⟨i, x⟩
    have := h (ix3 i (0 : Fin 1) ⟨512 * (x 1).val + (x 2).val, by have : (x 1).val < 512 := (x 1).isLt; have : (x 2).val < 512 := (x 2).isLt; omega⟩)
    rw [flat_apply, place_pixel (x 1) (x 2)] at this
    have e : (ix3 (0 : Fin 1) (x 1) (x 2) : T1x512x512.Idx) = x := by
      funext a
      match a with
      | ⟨0, _⟩ => apply Fin.ext; exact (Nat.lt_one_iff.mp (x 0).isLt).symm
      | ⟨1, _⟩ => rfl
      | ⟨2, _⟩ => rfl
    rw [e] at this
    exact this
  · intro h x
    have e : x = ix3 (x 0) (0 : Fin 1) (x 2) := by
      funext a
      match a with
      | ⟨0, _⟩ => rfl
      | ⟨1, _⟩ => apply Fin.ext; exact Nat.lt_one_iff.mp (x 1).isLt
      | ⟨2, _⟩ => rfl
    rw [e]
    exact (congrArg p (flat_apply X (x 0) (x 2))).mpr (h (x 0, place (x 2)))

/-- The bounds the reference finds are the extremes. -/
theorem extreme_image (X : FVec Ideal S4x1x512x512 .f32) : Extreme (pixels (image X))
    (Host.reduce (FloatOps.minimumf (F := Ideal) (φ := .f32)) (shapeCast S4x1x262144 X shapeCasts_S4x1x512x512_S4x1x262144) (constant (F := Ideal) S_ .f32 0x7F800000#32)
      reducesTo_S4x1x262144_S_d0_1_2 h_S_ ix0)
    (Host.reduce (FloatOps.maximumf (F := Ideal) (φ := .f32)) (shapeCast S4x1x262144 X shapeCasts_S4x1x512x512_S4x1x262144) (constant (F := Ideal) S_ .f32 0xFF800000#32)
      reducesTo_S4x1x262144_S_d0_1_2 h_S_ ix0) where
  le z := by
    rw [Host.reduce_eq_fold]
    show z ≤ Finset.fold min (Ideal.ofBits .f32 0x7F800000#32) _ _ ↔ _
    rw [Finset.le_fold_min, inf_word, ← forall_flat (p := (z ≤ ·))]
    simp only [le_top, true_and, Finset.mem_filter, Finset.mem_univ]
    exact ⟨fun h x => h x (funext fun a => a.elim0), fun h x _ => h x⟩
  ge z := by
    rw [Host.reduce_eq_fold]
    show Finset.fold max (Ideal.ofBits .f32 0xFF800000#32) _ _ ≤ z ↔ _
    rw [Finset.fold_max_le, neg_inf_word, ← forall_flat (p := (· ≤ z))]
    simp only [bot_le, true_and, Finset.mem_filter, Finset.mem_univ]
    exact ⟨fun h x => h x (funext fun a => a.elim0), fun h x _ => h x⟩

end Cert.ReferenceIdeal.Value
-- ==== Proof.Centre.lean ====
/- The reference's bin centres, its width and its normalised pixels, read at an index. -/
module

public import proofs.«01_k».proof.Proof.Refer

@[expose] public section

noncomputable section

namespace Cert.ReferenceIdeal.Value

open Idealize.ShloMosaic hiding ix0 ix1 ix2 ix3 ix4 ix5 ix6 eq_ix2
open Idealize.ShloMosaic.ValueIdx Idealize.ShloMosaic.StableHlo Cert.MI
open Cert.ReferenceIdeal Cert.ReferenceIdeal.Gen

theorem word_half : Ideal.ofBits .f32 0x3F000000#32 = ((1 / 2 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_tenth : Ideal.ofBits .f32 0x3DCCCCCD#32 = ((rr⁻¹ : ℝ) : EReal) := by
  unfold rr
  simp [Ideal.ofBits, Ideal.ieee, -EReal.coe_mul]; norm_num
theorem word_pixels : Ideal.ofBits .f32 0x49800000#32 = ((1048576 : ℝ) : EReal) := by
  simp [Ideal.ofBits, Ideal.ieee, -EReal.coe_mul]; norm_num
theorem word_share : Ideal.ofBits .f32 0x35800000#32 = ((1048576⁻¹ : ℝ) : EReal) := by
  simp [Ideal.ofBits, Ideal.ieee, -EReal.coe_mul]; norm_num

/-- A quotient of reals whose divisor is not zero. -/
theorem div_real {a b : ℝ} (h : b ≠ 0) : Ideal.div (a : EReal) (b : EReal) = ((a * b⁻¹ : ℝ) : EReal) := by
  unfold Ideal.div
  rw [if_neg (by exact_mod_cast h), ← EReal.coe_inv, ← EReal.coe_mul]

variable (V : Valuation τ sig (Elt Ideal))

/-- The `k`-th of 64 steps. -/
theorem step_apply (k : Fin 64) : (res_main_call0_v6 V (ix1 k) : EReal) = ((k.val * (64 : ℝ)⁻¹ : ℝ) : EReal) := by
  show Ideal.div ((((BitVec.ofNat 32 k.val).toInt : ℝ)) : EReal) (Ideal.ofBits .f32 0x42800000#32) = _
  rw [word_64, div_real (by norm_num)]
  have h : (BitVec.ofNat 32 k.val).toInt = (k.val : ℤ) := by
    rw [BitVec.toInt_ofNat']
    have := k.isLt
    rw [Int.bmod_eq_of_le] <;> omega
  rw [h]
  norm_cast

/-- The bins' edges. -/
theorem edge_apply (k : Fin 65) : (res_main_v20 V (ix1 k) : EReal) = ((k.val * (64 : ℝ)⁻¹ : ℝ) : EReal) := by
  unfold res_main_v20
  simp only [pointwise]
  have h0 : (res_main_call0_v0 V Idealize.ShloMosaic.ix0 : EReal) = ((0 : ℝ) : EReal) := Ideal.ofBits_zero_f32.trans EReal.coe_zero.symm
  have h1 : (res_main_call0_v1 V Idealize.ShloMosaic.ix0 : EReal) = ((1 : ℝ) : EReal) := one_word.trans EReal.coe_one.symm
  by_cases h : k.val < 64
  · have hs : (res_main_call0_v6 V (Idealize.ShloMosaic.ix1 (⟨k.val, h⟩ : Fin 64)) : EReal) = ((k.val * (64 : ℝ)⁻¹ : ℝ) : EReal) :=
      step_apply V ⟨k.val, h⟩
    refine (dif_pos h).trans ?_
    refine Eq.trans (congrArg₂ (· + ·) (congrArg₂ (· * ·) h0 (congrArg (1 - ·) hs)) (congrArg₂ (· * ·) h1 hs)) ?_
    rw [← EReal.coe_one]
    show ((0 : ℝ) : EReal) * (((1 : ℝ) : EReal) - ((k.val * (64 : ℝ)⁻¹ : ℝ) : EReal)) + ((1 : ℝ) : EReal) * ((k.val * (64 : ℝ)⁻¹ : ℝ) : EReal) = _
    rw [← EReal.coe_sub, ← EReal.coe_mul, ← EReal.coe_mul, ← EReal.coe_add]
    congr 1; ring
  · refine (dif_neg h).trans (h1.trans ?_)
    have : k.val = 64 := by have := k.isLt; omega
    rw [this]; norm_num

/-- The centre of bin `j`. -/
theorem centre_apply (j : Fin 64) : (res_main_v25 V (ix1 j) : EReal) = (((j.val + 1 / 2) / 64 : ℝ) : EReal) := by
  have a : (extractStridedSlice S64 ![0] (res_main_v20 V) slices_S65_S64_0 (ix1 j) : EReal) = ((j.val * (64 : ℝ)⁻¹ : ℝ) : EReal) := by
    refine Eq.trans (congrArg (res_main_v20 V) ?_) (edge_apply V ⟨j.val, by omega⟩)
    funext a
    match a with
    | ⟨0, _⟩ => apply Fin.ext; show 0 + j.val = j.val; omega
  have b : (extractStridedSlice S64 ![1] (res_main_v20 V) slices_S65_S64_1 (ix1 j) : EReal) = (((j.val + 1 : ℕ) * (64 : ℝ)⁻¹ : ℝ) : EReal) := by
    refine Eq.trans (congrArg (res_main_v20 V) ?_) (edge_apply V ⟨j.val + 1, by omega⟩)
    funext a
    match a with
    | ⟨0, _⟩ => apply Fin.ext; show 1 + j.val = j.val + 1; omega
  refine Eq.trans (congrArg₂ (· * ·) word_half (congrArg₂ (· + ·) a b)) ?_
  rw [← EReal.coe_add, ← EReal.coe_mul]
  congr 1; push_cast; ring

/-- A number taken out of an array of one. -/
theorem first {v : EReal} (y : S1.Idx → EReal) (h : ∀ i, y i = v) (x : S_.Idx) : shapeCast S_ y shapeCasts_S1_S_ x = v := h _

/-- The width of the bins' weight. -/
theorem width_apply (x : S_.Idx) : (res_main_v31 V x : EReal) = ((rr⁻¹ * 64⁻¹ : ℝ) : EReal) := by
  have a : (shapeCast S_ (extractStridedSlice S1 ![1] (res_main_v25 V) slices_S64_S1_1) shapeCasts_S1_S_ x : EReal) = (((1 + 1 / 2) / 64 : ℝ) : EReal) := by
    refine Eq.trans (first _ (fun y => ?_) x) ((centre_apply V 1).trans (by norm_num))
    refine congrArg (res_main_v25 V) (funext fun a => ?_)
    match a with
    | ⟨0, _⟩ => apply Fin.ext; show 1 + (y 0).val = 1; rw [Nat.lt_one_iff.mp (y 0).isLt]
  have b : (shapeCast S_ (extractStridedSlice S1 ![0] (res_main_v25 V) slices_S64_S1_0) shapeCasts_S1_S_ x : EReal) = (((0 + 1 / 2) / 64 : ℝ) : EReal) := by
    refine Eq.trans (first _ (fun y => ?_) x) ((centre_apply V 0).trans (by norm_num))
    refine congrArg (res_main_v25 V) (funext fun a => ?_)
    match a with
    | ⟨0, _⟩ => apply Fin.ext; show 0 + (y 0).val = 0; rw [Nat.lt_one_iff.mp (y 0).isLt]
  refine Eq.trans (congrArg₂ (· * ·) word_tenth (congrArg₂ (· - ·) a b)) ?_
  rw [← EReal.coe_sub, ← EReal.coe_mul]
  congr 1; ring

/-- Each normalised pixel less each bin's centre. -/
def away (Y : FVec Ideal S4x1x262144 .f32) (a b : FVec Ideal S_ .f32) (C : FVec Ideal S64 .f32) : FVec Ideal S4x1x262144x64 .f32 :=
  subf (broadcastInDim S4x1x262144x64 ![0, 1, 2, 3] bcast_S4x1x262144x1_S4x1x262144x64_0_1_2_3
      (broadcastInDim S4x1x262144x1 ![0, 1, 2] bcast_S4x1x262144_S4x1x262144x1_0_1_2
        (Host.divf (subf Y (broadcastInDim S4x1x262144 ![] bcast_S_S4x1x262144 a)) (broadcastInDim S4x1x262144 ![] bcast_S_S4x1x262144 b))))
      (broadcastInDim S4x1x262144x64 ![0, 1, 2, 3] bcast_S1x1x1x64_S4x1x262144x64_0_1_2_3
        (broadcastInDim S1x1x1x64 ![3] bcast_S64_S1x1x1x64_3 C))

/-- The distance from a bin centre, read at a pixel and a bin. -/
theorem away_apply (Y : FVec Ideal S4x1x262144 .f32) (a b : FVec Ideal S_ .f32) (C : FVec Ideal S64 .f32) (i : Fin 4) (r : Fin 262144) (j : Fin 64) :
    (away Y a b C (ix4 i (0 : Fin 1) r j) : EReal) = Ideal.div (Y (ix3 i (0 : Fin 1) r) - a ix0) (b ix0) - C (ix1 j) := by
  unfold away
  simp only [pointwise]
  rfl

/-- Equal terms have equal quotients of their sums. -/
theorem quotient_congr {n : ℕ} {f g : Fin n → EReal} (c : EReal) (h : ∀ r, f r = g r) : Ideal.div (∑ r, f r) c = Ideal.div (∑ r, g r) c := by
  rw [Finset.sum_congr rfl fun r _ => h r]

/-- The mean over the pixels of the weights of a pair, given the two distances and the width. -/
def means (a b : FVec Ideal S4x1x262144x64 .f32) (w : FVec Ideal S_ .f32) : FVec Ideal S4x1x64 .f32 :=
  Host.divf (Host.reduceAdd (Host.exp (Host.divf (Host.negf (addf (mulf a a) (mulf b b))) (broadcastInDim S4x1x262144x64 ![] bcast_S_S4x1x262144x64
    (mulf (constant S_ .f32 0x40000000#32) (mulf w w))))) (constant S_ .f32 0x00000000#32) reducesTo_S4x1x262144x64_S4x1x64_d2 h_S_)
    (broadcastInDim S4x1x64 ![] bcast_S_S4x1x64 (constant S_ .f32 0x49800000#32))

/-- The mean of the weights of a bin. -/
theorem means_apply (a b : FVec Ideal S4x1x262144x64 .f32) (w : FVec Ideal S_ .f32) (i : Fin 4) (j : Fin 64) :
    (means a b w (ix3 i (0 : Fin 1) j) : EReal) = Ideal.div (∑ r : Fin 262144, Ideal.exp (Ideal.div
      (-(a (ix4 i (0 : Fin 1) r j) * a (ix4 i (0 : Fin 1) r j) + b (ix4 i (0 : Fin 1) r j) * b (ix4 i (0 : Fin 1) r j)))
      (Ideal.ofBits .f32 0x40000000#32 * (w ix0 * w ix0)))) (Ideal.ofBits .f32 0x49800000#32) := by
  unfold means
  simp only [pointwise]
  rw [zero_add]
  exact quotient_congr _ fun r => congrArg Ideal.exp (congrArg₂ Ideal.div (congrArg Neg.neg
    (congrArg₂ (· + ·) (congrArg₂ (· * ·) rfl rfl) (congrArg₂ (· * ·) rfl rfl))) rfl)

end Cert.ReferenceIdeal.Value
-- ==== Proof.Bins.lean ====
/- The reference's histograms: each bin is the mean of the weights of all pixels. -/
module

public import proofs.«01_k».proof.Proof.Centre

@[expose] public section

noncomputable section

namespace Cert.ReferenceIdeal.Value

open Idealize.ShloMosaic hiding ix0 ix1 ix2 ix3 ix4 ix5 ix6 eq_ix2
open Idealize.ShloMosaic.ValueIdx Idealize.ShloMosaic.StableHlo Cert.MI
open Cert.ReferenceIdeal Cert.ReferenceIdeal.Gen

/-- A sum over a flat image is one over its pixels. -/
theorem sum_flat (G : T1x512x512.Idx → EReal) : ∑ r : Fin 262144, G (place r) = total G := by
  unfold total
  rw [← Fintype.sum_prod_type', ← Equiv.sum_comp (finProdFinEquiv (m := 512) (n := 512)) (fun r : Fin 262144 => G (place r))]
  refine Finset.sum_congr rfl fun p _ => congrArg G ?_
  rw [← place_pixel p.1 p.2]
  refine congrArg place (Fin.ext ?_)
  show p.2.val + 512 * p.1.val = 512 * p.1.val + p.2.val
  omega

/-- The bounds of an argument, as arrays of one number. -/
def lows (X : FVec Ideal S4x1x512x512 .f32) : FVec Ideal S_ .f32 :=
  Host.reduce (FloatOps.minimumf (F := Ideal) (φ := .f32)) (shapeCast S4x1x262144 X shapeCasts_S4x1x512x512_S4x1x262144)
    (constant (F := Ideal) S_ .f32 0x7F800000#32) reducesTo_S4x1x262144_S_d0_1_2 h_S_
/-- The greatest pixel of an image, as the reference folds it. -/
def highs (X : FVec Ideal S4x1x512x512 .f32) : FVec Ideal S_ .f32 :=
  Host.reduce (FloatOps.maximumf (F := Ideal) (φ := .f32)) (shapeCast S4x1x262144 X shapeCasts_S4x1x512x512_S4x1x262144)
    (constant (F := Ideal) S_ .f32 0xFF800000#32) reducesTo_S4x1x262144_S_d0_1_2 h_S_

/-- The bounds. -/
def low (X : FVec Ideal S4x1x512x512 .f32) : EReal := lows X ix0
def high (X : FVec Ideal S4x1x512x512 .f32) : EReal := highs X ix0

/-- The reference's bounds are the least and the greatest pixel of the image. -/
theorem extreme (X : FVec Ideal S4x1x512x512 .f32) : Extreme (pixels (image X)) (low X) (high X) := extreme_image X

variable (V : Valuation τ sig (Elt Ideal))

/-- The two arguments. -/
abbrev arg0 : FVec Ideal S4x1x512x512 .f32 := V (Proc.devRef .tc main_arg0)
abbrev arg1 : FVec Ideal S4x1x512x512 .f32 := V (Proc.devRef .tc main_arg1)

/-- The range as the reference adds it up. -/
def spread (a b : FVec Ideal S_ .f32) : FVec Ideal S_ .f32 := addf (subf b a) (constant S_ .f32 0x34000000#32)

/-- What the normalisation divides by: the greatest less the least, plus epsilon. -/
theorem spread_apply (a b : FVec Ideal S_ .f32) : (spread a b ix0 : EReal) = range (a ix0) (b ix0) := by
  show b ix0 - a ix0 + Ideal.ofBits .f32 0x34000000#32 = _
  rw [eps_word]; rfl

/-- The distance of a normalised pixel of the first image from a bin centre. -/
theorem away_first (i : Fin 4) (r : Fin 262144) (j : Fin 64) : (res_main_v36 V (ix4 i (0 : Fin 1) r j) : EReal) =
    Ideal.div (pixels (image (arg0 V)) (i, place r) - low (arg0 V)) (range (low (arg0 V)) (high (arg0 V))) - (((j.val + 1 / 2) / 64 : ℝ) : EReal) := by
  have e : (res_main_v0 V (ix3 i (0 : Fin 1) r) : EReal) = pixels (image (arg0 V)) (i, place r) := flat_apply (arg0 V) i r
  have h : (res_main_v36 V : FVec Ideal S4x1x262144x64 .f32) = away (res_main_v0 V) (lows (arg0 V)) (spread (lows (arg0 V)) (highs (arg0 V))) (res_main_v25 V) := rfl
  rw [h, away_apply, e, centre_apply, spread_apply, low, high]

/-- The distance of a normalised pixel of the second image from a bin centre. -/
theorem away_second (i : Fin 4) (r : Fin 262144) (j : Fin 64) : (res_main_v42 V (ix4 i (0 : Fin 1) r j) : EReal) =
    Ideal.div (pixels (image (arg1 V)) (i, place r) - low (arg1 V)) (range (low (arg1 V)) (high (arg1 V))) - (((j.val + 1 / 2) / 64 : ℝ) : EReal) := by
  have e : (res_main_v1 V (ix3 i (0 : Fin 1) r) : EReal) = pixels (image (arg1 V)) (i, place r) := flat_apply (arg1 V) i r
  have h : (res_main_v42 V : FVec Ideal S4x1x262144x64 .f32) = away (res_main_v1 V) (lows (arg1 V)) (spread (lows (arg1 V)) (highs (arg1 V))) (res_main_v25 V) := rfl
  rw [h, away_apply, e, centre_apply, spread_apply, low, high]

/-- A real pixel pair's weight, as the reference computes it. -/
theorem weight_real (u v : ℝ) (n : ℕ) {a b w : EReal} (ha : a = (u : EReal) - (((n + 1 / 2) / 64 : ℝ) : EReal))
    (hb : b = (v : EReal) - (((n + 1 / 2) / 64 : ℝ) : EReal)) (hw : w = ((rr⁻¹ * 64⁻¹ : ℝ) : EReal)) :
    Ideal.exp (Ideal.div (-(a * a + b * b)) (Ideal.ofBits .f32 0x40000000#32 * (w * w))) = ((weight u v n : ℝ) : EReal) := by
  have hr : rr ≠ 0 := by unfold rr; norm_num
  rw [ha, hb, hw, word_two, ← EReal.coe_sub, ← EReal.coe_sub, ← EReal.coe_mul, ← EReal.coe_mul, ← EReal.coe_mul, ← EReal.coe_mul,
    ← EReal.coe_add, ← EReal.coe_neg, div_real (by positivity), Ideal.exp_coe]
  unfold weight
  congr 2
  field_simp
  ring

/-- Equal terms have equal multiples of their sums. -/
theorem product_congr {n : ℕ} {f g : Fin n → EReal} (c : EReal) (h : ∀ r, f r = g r) : (∑ r, f r) * c = (∑ r, g r) * c := by
  rw [Finset.sum_congr rfl fun r _ => h r]

/-- The histograms of the reference, with the normalised pixels `f` and `g`. -/
theorem bin_apply {f g : Fin 4 × T1x512x512.Idx → ℝ}
    (hf : ∀ p, Ideal.div (pixels (image (arg0 V)) p - low (arg0 V)) (range (low (arg0 V)) (high (arg0 V))) = (f p : EReal))
    (hg : ∀ p, Ideal.div (pixels (image (arg1 V)) p - low (arg1 V)) (range (low (arg1 V)) (high (arg1 V))) = (g p : EReal))
    (i : Fin 4) (j : Fin 64) : (res_main_v53 V (ix3 i (0 : Fin 1) j) : EReal) =
      total (fun x => ((weight (f (i, x)) (g (i, x)) j.val : ℝ) : EReal)) * Ideal.ofBits .f32 0x35800000#32 := by
  have hdiv : ∀ x : EReal, Ideal.div x (Ideal.ofBits .f32 0x49800000#32) = x * Ideal.ofBits .f32 0x35800000#32 := by
    intro x
    rw [word_pixels, word_share]
    unfold Ideal.div
    rw [if_neg (by norm_cast), ← EReal.coe_inv]
  have h : (res_main_v53 V : FVec Ideal S4x1x64 .f32) = means (res_main_v36 V) (res_main_v42 V) (res_main_v31 V) := rfl
  rw [h, means_apply, hdiv, ← sum_flat]
  refine product_congr _ fun r => ?_
  refine weight_real (f (i, place r)) (g (i, place r)) j.val ?_ ?_ (width_apply V _)
  · rw [away_first, hf]
  · rw [away_second, hg]

end Cert.ReferenceIdeal.Value
-- ==== Proof.Answer.lean ====
/- The reference's result: the mutual information of its histograms. -/
module

public import proofs.«01_k».proof.Proof.Info
public import proofs.«01_k».proof.Proof.Bins

@[expose] public section

noncomputable section

namespace Cert.ReferenceIdeal.Value

open Idealize.ShloMosaic hiding ix0 ix1 ix2 ix3 ix4 ix5 ix6 eq_ix2
open Idealize.ShloMosaic.ValueIdx Idealize.ShloMosaic.StableHlo Cert.MI
open Cert.ReferenceIdeal Cert.ReferenceIdeal.Gen

/-- The histograms, each over its own sum. -/
def parts (h : FVec Ideal S4x1x64 .f32) : FVec Ideal S4x64 .f32 :=
  shapeCast S4x64 (Host.divf h (broadcastInDim S4x1x64 ![0, 1, 2] bcast_S4x1x1_S4x1x64_0_1_2 (addf (broadcastInDim S4x1x1 ![0, 1] bcast_S4x1_S4x1x1_0_1
    (Host.reduceAdd h (constant S_ .f32 0x00000000#32) reducesTo_S4x1x64_S4x1_d2 h_S_))
    (broadcastInDim S4x1x1 ![] bcast_S_S4x1x1 (constant S_ .f32 0x34000000#32))))) shapeCasts_S4x1x64_S4x64

/-- A term of the quotient, read at a bin. -/
theorem parts_apply (h : FVec Ideal S4x1x64 .f32) (i : Fin 4) (j : Fin 64) :
    (parts h (ix2 i j) : EReal) = chance (fun i j => h (ix3 i (0 : Fin 1) j)) i j := by
  unfold parts chance
  simp only [pointwise, zero_add]
  rfl

/-- The terms, given the products of the marginals. -/
def words (p q : FVec Ideal S4x64 .f32) : FVec Ideal S4x64 .f32 :=
  mulf p (Host.log (addf (Host.divf (addf p (broadcastInDim S4x64 ![] bcast_S_S4x64 (constant S_ .f32 0x34000000#32)))
    (addf q (broadcastInDim S4x64 ![] bcast_S_S4x64 (constant S_ .f32 0x34000000#32)))) (broadcastInDim S4x64 ![] bcast_S_S4x64 (constant S_ .f32 0x34000000#32))))

/-- The products of the marginals. -/
def product (p : FVec Ideal S4x64 .f32) : FVec Ideal S4x64 .f32 :=
  Host.dotGeneral dot_S4x1_S1x64_S4x64_1_0_0_1_n_n none (broadcastInDim S4x1 ![0] bcast_S4_S4x1_0
      (Host.reduceAdd p (constant S_ .f32 0x00000000#32) reducesTo_S4x64_S4_d1 h_S_))
      (broadcastInDim S1x64 ![1] bcast_S64_S1x64_1 (Host.reduceAdd p (constant S_ .f32 0x00000000#32) reducesTo_S4x64_S64_d0 h_S_))

/-- The product of the two margins, read at a bin. -/
theorem product_apply (p : FVec Ideal S4x64 .f32) (i : Fin 4) (j : Fin 64) :
    (product p (ix2 i j) : EReal) = (∑ k : Fin 64, p (ix2 i k)) * ∑ k : Fin 4, p (ix2 k j) := by
  unfold product
  generalize ha : broadcastInDim S4x1 ![0] bcast_S4_S4x1_0 (Host.reduceAdd p (constant S_ .f32 0x00000000#32) reducesTo_S4x64_S4_d1 h_S_) = a
  generalize hb : broadcastInDim S1x64 ![1] bcast_S64_S1x64_1 (Host.reduceAdd p (constant S_ .f32 0x00000000#32) reducesTo_S4x64_S64_d0 h_S_) = b
  have ea : (a (ix2 i (0 : Fin 1)) : EReal) = ∑ k : Fin 64, p (ix2 i k) := by
    rw [← ha]; simp only [pointwise, zero_add]; rfl
  have eb : (b (ix2 (0 : Fin 1) j) : EReal) = ∑ k : Fin 4, p (ix2 k j) := by
    rw [← hb]; simp only [pointwise, zero_add]; rfl
  rw [← ea, ← eb]
  simp only [pointwise, zero_add]
  exact Fin.sum_univ_one _

/-- One term of the mutual information, read at a bin. -/
theorem words_apply (p q : FVec Ideal S4x64 .f32) (i : Fin 4) (j : Fin 64) : (words p q (ix2 i j) : EReal) =
    p (ix2 i j) * Ideal.log (Ideal.div (p (ix2 i j) + small) (q (ix2 i j) + small) + small) := by
  unfold words
  simp only [pointwise]

/-- The terms summed, over one. -/
def summed (t : FVec Ideal S4x64 .f32) : FVec Ideal S_ .f32 :=
  Host.divf (Host.reduceAdd (Host.reduceAdd t
    (constant S_ .f32 0x00000000#32) reducesTo_S4x64_S_d0_1 h_S_) (constant S_ .f32 0x00000000#32) reducesTo_S_S_d h_S_) (constant S_ .f32 0x3F800000#32)

/-- The sum of the terms over pairs and bins. -/
theorem summed_apply (t : FVec Ideal S4x64 .f32) (x : S_.Idx) : (summed t x : EReal) = ∑ i : Fin 4, ∑ j : Fin 64, t (ix2 i j) := by
  have hone : ∀ y : EReal, Ideal.div y 1 = y := by
    intro y
    rw [← EReal.coe_one]
    unfold Ideal.div
    rw [if_neg (by norm_num), ← EReal.coe_inv, inv_one, EReal.coe_one, mul_one]
  have hin : ∀ y : S_.Idx, (Host.reduceAdd t (constant S_ .f32 0x00000000#32) reducesTo_S4x64_S_d0_1 h_S_ y : EReal) = ∑ i : Fin 4, ∑ j : Fin 64, t (ix2 i j) := by
    intro y; simp only [pointwise, zero_add]; rfl
  unfold summed
  generalize Host.reduceAdd t (constant S_ .f32 0x00000000#32) reducesTo_S4x64_S_d0_1 h_S_ = u at hin
  simp only [pointwise]
  rw [hone, Ideal.hostReduceAdd_total _ (fun b => b.elim0), zero_add, Finset.sum_congr rfl fun y _ => hin y, Finset.sum_const]
  rw [Finset.card_univ, Fintype.card_eq_one_iff.mpr ⟨ix0, fun y => funext fun a => a.elim0⟩, one_smul]

variable (V : Valuation τ sig (Elt Ideal))

/-- What the reference returns. -/
def outcome : FVec Ideal S_ .f32 := summed (words (res_main_v60 V) (product (res_main_v60 V)))

/-- The reference's result is the mutual information of its histograms. -/
theorem outcome_apply (x : S_.Idx) : (outcome V x : EReal) = info fun i j => res_main_v53 V (ix3 i (0 : Fin 1) j) := by
  have h : (res_main_v60 V : FVec Ideal S4x64 .f32) = parts (res_main_v53 V) := rfl
  unfold outcome info
  rw [summed_apply, h]
  refine Finset.sum_congr rfl fun i _ => Finset.sum_congr rfl fun j _ => ?_
  rw [words_apply, product_apply]
  simp only [parts_apply]
  rfl

end Cert.ReferenceIdeal.Value
-- ==== Proof.Named.lean ====
/- The named constants of the kernel are those the exponent needs. -/
module

public import proofs.«01_k».proof.Proof.Weight
public import proofs.«01_k».proof.Proof.Hist

@[expose] public section

noncomputable section

namespace Cert.KernelIdeal.Run

open Idealize.ShloMosaic Cert.MI

/-- A named constant is its real number. -/
theorem name_real {x y : ℝ} {n : String} {w : BitVec 32} (h : κ n = some ((x : ℝ) : EReal)) (e : x = y) :
    Named.named (F := Ideal) κ n (φ := .f32) w = ((y : ℝ) : EReal) :=
  (IdealRules.named_const.ideal_named_scalar _ _ _ _ h).trans (congrArg _ e)

/-- The kernel's constants satisfy what the exponent needs. -/
theorem consts_par (M : FVec Ideal T8 .f32) (X1 X2 : FVec Ideal T1x512x512 .f32) : Consts (par (F := Ideal) M X1 X2) where
  kq := name_real rfl (by rw [dl_sq]; unfold rr; ring)
  sqk := name_real rfl (by unfold dl rr; ring)
  dlt2 := name_real rfl (by unfold dl rr; ring)
  dltsq := name_real rfl (by rw [dl_sq]; unfold rr; ring)
  dltsq2 := name_real rfl (by rw [dl_sq]; unfold rr; ring)
  cb g hg := by
    match g, hg with
    | 0, _ => exact name_real (n := "cb0") (w := 0x40C02DF9#32) rfl (by unfold dl rr; push_cast; ring)
    | 1, _ => exact name_real (n := "cb16") (w := 0x43462F69#32) rfl (by unfold dl rr; push_cast; ring)
    | 2, _ => exact name_real (n := "cb32") (w := 0x43C32EB1#32) rfl (by unfold dl rr; push_cast; ring)
    | 3, _ => exact name_real (n := "cb48") (w := 0x4411A2D7#32) rfl (by unfold dl rr; push_cast; ring)

end Cert.KernelIdeal.Run
-- ==== Proof.Algebraic.lean ====
/- The kernel and the reference return the same number. -/
module

public import proofs.«01_k».proof.Proof.Result
public import proofs.«01_k».proof.Proof.Answer
public import proofs.«01_k».proof.Proof.Named
public import proofs.«01_k».proof.Defs

@[expose] public section

noncomputable section

namespace Cert.Parts

open Idealize.ShloMosaic hiding ix0 ix1 ix2 ix3 ix4 ix5 ix6 eq_ix2
open Idealize.ShloMosaic.TcCoe Idealize.ShloMosaic.ValueIdx
open Idealize.SL Idealize.SL.Sem
open Idealize.ShloMosaic.StableHlo
open Cert.MI

variable (m : (ℓ : Loc KernelIdeal.nD KernelIdeal.τ KernelIdeal.sig) → Buf (Elt Ideal) ℓ)

/-- The kernel's blocks are the images of its arguments. -/
theorem blocks_first (c : Dev KernelIdeal.nD) : KernelIdeal.Run.blkA m c =
    ReferenceIdeal.Value.image (m ((c : Thread KernelIdeal.nD KernelIdeal.τ).loc KernelIdeal.main_arg0)) := by
  funext n x; exact KernelIdeal.Run.blkA_apply m c n x
/-- The same for the second image. -/
theorem blocks_second (c : Dev KernelIdeal.nD) : KernelIdeal.Run.blkB m c =
    ReferenceIdeal.Value.image (m ((c : Thread KernelIdeal.nD KernelIdeal.τ).loc KernelIdeal.main_arg1)) := by
  funext n x; exact KernelIdeal.Run.blkB_apply m c n x

/-- The second pass visits the pairs in the same order as the first. -/
theorem image_round (X : FVec Ideal ReferenceIdeal.S4x1x512x512 .f32) (k : ℕ) :
    ReferenceIdeal.Value.image X (4 + k) = ReferenceIdeal.Value.image X k := by
  unfold ReferenceIdeal.Value.image
  funext x
  refine congrArg X ?_
  congr 1
  apply Fin.ext
  show (4 + k) % 4 = k % 4
  omega

/-- On the same arguments the kernel's number is the reference's. -/
theorem same (c : Dev KernelIdeal.nD) (V : Valuation ReferenceIdeal.τ ReferenceIdeal.sig (Elt Ideal))
    (h0 : ReferenceIdeal.Value.arg0 V = m ((c : Thread KernelIdeal.nD KernelIdeal.τ).loc KernelIdeal.main_arg0))
    (h1 : ReferenceIdeal.Value.arg1 V = m ((c : Thread KernelIdeal.nD KernelIdeal.τ).loc KernelIdeal.main_arg1))
    (x : ReferenceIdeal.S_.Idx) :
    (KernelIdeal.Run.resultOf m c : EReal) = ReferenceIdeal.Value.outcome V x := by
  unfold KernelIdeal.Run.resultOf
  rw [miOf_eq, ReferenceIdeal.Value.outcome_apply, blocks_first, blocks_second, ← h0, ← h1]
  obtain ⟨f, g, hf, hg, hh⟩ := hist_done (ReferenceIdeal.Value.image (ReferenceIdeal.Value.arg0 V))
    (ReferenceIdeal.Value.image (ReferenceIdeal.Value.arg1 V)) KernelIdeal.Run.consts_par
    (fun k _ => image_round _ k) (fun k _ => image_round _ k)
    (ReferenceIdeal.Value.extreme _) (ReferenceIdeal.Value.extreme _)
  refine congrArg info ?_
  funext i j
  exact (hh i j).trans (ReferenceIdeal.Value.bin_apply V hf hg i j).symm

/-- The claim. -/
theorem algebraic : algebraic_KernelIdeal_ReferenceIdeal := by
  intro m g m' g' _ hm
  refine ⟨fun c _ => KernelIdeal.Run.resultOf m c, KernelIdeal.Run.run_value m g, ?_⟩
  refine (θ_run _ _ _).mono (fun _ h c => ⟨(h c).1.trans ?_, (h c).2⟩) (ReferenceIdeal.Value.run m' g')
  have e0 : ReferenceIdeal.Value.arg0 (launchContents m' c) =
      m ((c : Thread KernelIdeal.nD KernelIdeal.τ).loc KernelIdeal.main_arg0) := (hm c).1
  have e1 : ReferenceIdeal.Value.arg1 (launchContents m' c) =
      m ((c : Thread KernelIdeal.nD KernelIdeal.τ).loc KernelIdeal.main_arg1) := (hm c).2
  funext x
  exact (same m c (launchContents m' c) e0 e1 x).symm

end Cert.Parts
-- ==== Proof.lean ====
/- The proof of every claim of this certificate. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Names
public import proofs.«01_k».proof.Proof.Algebraic

@[expose] public section

noncomputable section

namespace Cert.Proof

/-- The three programs run to the end and leave their arguments alone, the named constants change nothing
else in the kernel, and the kernel's number is the reference's. -/
theorem claim : Cert.Claim :=
  ⟨Cert.Kernel.Gen.facts, Cert.KernelIdeal.Gen.facts, Cert.ReferenceIdeal.Gen.facts,
    Cert.Parts.frame_kernel, Cert.Parts.frame_ideal, Cert.Parts.frame_reference, Cert.Parts.preserves,
    Cert.Parts.algebraic⟩

end Cert.Proof

end
